-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_index_nonneg [hPre_index_nonneg : Cert.Pre_index_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_index_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_index_nonneg [hPre_index_nonneg : Cert.Pre_index_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_index_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_index_nonneg [hKernelIdeal : Cert.KernelIdeal.Facts] [hPre_index_nonneg : Cert.Pre_index_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_index_nonneg m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_index_nonneg [hReferenceIdeal : Cert.ReferenceIdeal.Facts] [hPre_index_nonneg : Cert.Pre_index_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_index_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_index_nonneg [hKernelIdeal : Cert.KernelIdeal.Facts] [hReferenceIdeal : Cert.ReferenceIdeal.Facts] [hPre_index_nonneg : Cert.Pre_index_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_index_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_index_nonneg : Cert.Pre_index_nonneg.Facts),
    quiescent_Kernel (hKernel := hKernel)
    ∧ quiescent_KernelIdeal (hKernelIdeal := hKernelIdeal)
    ∧ quiescent_KernelIdeal_pre_index_nonneg (hKernelIdeal := hKernelIdeal) (hPre_index_nonneg := hPre_index_nonneg)
    ∧ quiescent_ReferenceIdeal (hReferenceIdeal := hReferenceIdeal)
    ∧ quiescent_ReferenceIdeal_pre_index_nonneg (hReferenceIdeal := hReferenceIdeal) (hPre_index_nonneg := hPre_index_nonneg)
    ∧ preserves_Kernel_KernelIdeal
    ∧ algebraic_KernelIdeal_ReferenceIdeal_pre_index_nonneg (hKernelIdeal := hKernelIdeal) (hReferenceIdeal := hReferenceIdeal) (hPre_index_nonneg := hPre_index_nonneg)
-- ==== Pre_index_nonneg.lean ====
abbrev S1000000x8 : Shape := ⟨2, ![1000000, 8]⟩
abbrev S4x8 : Shape := ⟨2, ![4, 8]⟩
abbrev S4 : Shape := ⟨1, ![4]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn {F : FTy → Type} [FloatOps F] (main_arg0 : FVec F S1000000x8 .f32) (main_arg1 : FVec F S4x8 .f32) (main_arg2 : IVec S4 32) : IVec S_ 1 :=
  let main_c : IVec S_ 32 := constantI S_ 32 0#32
  let main_v0 : IVec S4 32 := broadcastInDim S4 ![] bcast_S_S4 main_c
  let main_v1 : IVec S4 1 := cmpi .sge main_arg2 main_v0
  let main_c_0 : IVec S_ 1 := constantI S_ 1 1#1
  let main_v2 : IVec S_ 1 := (fun x v => Host.reduce IntOp.andi x v reducesTo_S4_S_d0 h_S_) main_v1 main_c_0
  main_v2
-- ==== Kernel.lean ====
abbrev S1000000x8 : Shape := ⟨2, ![1000000, 8]⟩
abbrev S4x8 : Shape := ⟨2, ![4, 8]⟩
abbrev S4 : Shape := ⟨1, ![4]⟩
abbrev S8000000 : Shape := ⟨1, ![8000000]⟩
abbrev S_ : Shape := ⟨0, ![]⟩
abbrev S4x16 : Shape := ⟨2, ![4, 16]⟩
abbrev S1 : Shape := ⟨1, ![1]⟩
abbrev S64 : Shape := ⟨1, ![64]⟩
abbrev S16 : Shape := ⟨1, ![16]⟩
abbrev S50000 : Shape := ⟨1, ![50000]⟩
abbrev S8 : Shape := ⟨1, ![8]⟩

abbrev nBuf : Table → Nat
  | .hbm => 17
  | .local .scVector .vmem => 4
  | _ => 0

abbrev bufTy : (tb : Table) → Fin (nBuf tb) → BufTy
  | .hbm, ⟨0, _⟩ => ⟨S1000000x8, .f32⟩
  | .hbm, ⟨1, _⟩ => ⟨S4x8, .f32⟩
  | .hbm, ⟨2, _⟩ => ⟨S4, .i32⟩
  | .hbm, ⟨3, _⟩ => ⟨S8000000, .f32⟩
  | .hbm, ⟨4, _⟩ => ⟨S_, .f32⟩
  | .hbm, ⟨5, _⟩ => ⟨S4x16, .f32⟩
  | .hbm, ⟨6, _⟩ => ⟨S_, .i32⟩
  | .hbm, ⟨7, _⟩ => ⟨S1, .i32⟩
  | .hbm, ⟨8, _⟩ => ⟨S4x16, .f32⟩
  | .hbm, ⟨9, _⟩ => ⟨S64, .f32⟩
  | .hbm, ⟨10, _⟩ => ⟨S_, .i32⟩
  | .hbm, ⟨11, _⟩ => ⟨S16, .i32⟩
  | .hbm, ⟨12, _⟩ => ⟨S_, .i32⟩
  | .hbm, ⟨13, _⟩ => ⟨S1, .i32⟩
  | .hbm, ⟨14, _⟩ => ⟨S16, .i32⟩
  | .hbm, ⟨15, _⟩ => ⟨S8000000, .f32⟩
  | .hbm, ⟨16, _⟩ => ⟨S1000000x8, .f32⟩
  | .local .scVector .vmem, ⟨0, _⟩ => ⟨S50000, .f32⟩
  | .local .scVector .vmem, ⟨1, _⟩ => ⟨S64, .f32⟩
  | .local .scVector .vmem, ⟨2, _⟩ => ⟨S16, .i32⟩
  | .local .scVector .vmem, ⟨3, _⟩ => ⟨S16, .f32⟩
  | _, _ => ⟨S1000000x8, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v0_scv : Ref sig .scVector := ⟨.hbm, 3, rfl⟩
abbrev main_v4_scv : Ref sig .scVector := ⟨.hbm, 9, rfl⟩
abbrev main_v7_scv : Ref sig .scVector := ⟨.hbm, 14, rfl⟩
abbrev main_v8_scv : Ref sig .scVector := ⟨.hbm, 15, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c250000_i32 : BitVec 32 := 250000#32
  let v2 : BitVec 32 := Scalar.muli v1 c250000_i32
  let v3 : BitVec 32 := Scalar.addi v2 c0_i32
  ![v3.toNat]
def k0_mult1 (v57 : BitVec 32) : BitVec 32 :=
  let c8_i32_9 : BitVec 32 := 8#32
  let v58 : BitVec 32 := Scalar.muli v57 c8_i32_9
  v58
def k0_cond1 (i : grid0.Coords) (v29 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c250000_i32 : BitVec 32 := 250000#32
  let v2 : BitVec 32 := Scalar.muli v1 c250000_i32
  let c0_i32_0 : BitVec 32 := 0#32
  let v11 : BitVec 1 := Scalar.cmpi .sgt v2 c0_i32_0
  let v12 : BitVec 32 := Scalar.extui v11
  let c0_i32_1 : BitVec 32 := 0#32
  let v13 : BitVec 1 := Scalar.cmpi .slt v2 c0_i32_1
  let v14 : BitVec 32 := Scalar.extui v13
  let v15 : BitVec 32 := Scalar.subi v12 v14
  let c8_i32 : BitVec 32 := 8#32
  let c0_i32_2 : BitVec 32 := 0#32
  let v16 : BitVec 1 := Scalar.cmpi .sgt c8_i32 c0_i32_2
  let v17 : BitVec 32 := Scalar.extui v16
  let c0_i32_3 : BitVec 32 := 0#32
  let v18 : BitVec 1 := Scalar.cmpi .slt c8_i32 c0_i32_3
  let v19 : BitVec 32 := Scalar.extui v18
  let v20 : BitVec 32 := Scalar.subi v17 v19
  let v21 : BitVec 1 := Scalar.cmpi .ne v15 v20
  let v22 : BitVec 32 := Scalar.remsi v2 c8_i32
  let c0_i32_4 : BitVec 32 := 0#32
  let v23 : BitVec 1 := Scalar.cmpi .ne v22 c0_i32_4
  let v24 : BitVec 1 := Scalar.andi v21 v23
  let v10 : BitVec 32 := Scalar.divsi v2 c8_i32
  let c1_i32 : BitVec 32 := 1#32
  let v25 : BitVec 32 := Scalar.subi v10 c1_i32
  let v26 : BitVec 32 := Scalar.select v24 v25 v10
  let v30 : BitVec 1 := Scalar.cmpi .sge v29 v26
  let c31250_i32 : BitVec 32 := 31250#32
  let v27 : BitVec 32 := Scalar.addi v26 c31250_i32
  let v31 : BitVec 1 := Scalar.cmpi .slt v29 v27
  let v32 : BitVec 1 := Scalar.andi v30 v31
  let v33 : BitVec 32 := Scalar.extui v32
  let c0_i32_5 : BitVec 32 := 0#32
  let v34 : BitVec 1 := Scalar.cmpi .ne v33 c0_i32_5
  v34

def k0_off2 (v57 : BitVec 32) : Fin 1 → Nat :=
  let c8_i32_9 : BitVec 32 := 8#32
  let v58 : BitVec 32 := Scalar.muli v57 c8_i32_9
  let v59 : BitVec 32 := v58
  ![v59.toNat]

def k0_chk1 (i : grid0.Coords) (v29 : BitVec 32) (v57 : BitVec 32) : Prop :=
  (∀ (k0_h1 : k0_cond1 i v29 = 1#1), 8 ∣ (k0_mult1 v57).toNat) ∧
  (∀ (k0_h1 : k0_cond1 i v29 = 1#1), ∀ a, (k0_off2 v57) a + S8.size a ≤ S8000000.size a)
theorem k0_mult1_dvd : ∀ (i : grid0.Coords) (v29 : BitVec 32) (v57 : BitVec 32) (k0_hw1 : k0_chk1 i v29 v57), ∀ (k0_h1 : k0_cond1 i v29 = 1#1), 8 ∣ (k0_mult1 v57).toNat := fun i v29 v57 k0_hw1 k0_h1 => k0_hw1.1 k0_h1
theorem k0_off2_inb : ∀ (i : grid0.Coords) (v29 : BitVec 32) (v57 : BitVec 32) (k0_hw1 : k0_chk1 i v29 v57), ∀ (k0_h1 : k0_cond1 i v29 = 1#1), ∀ a, (k0_off2 v57) a + S8.size a ≤ S8000000.size a := fun i v29 v57 k0_hw1 k0_h1 => k0_hw1.2 k0_h1

def k0_mult2 (v57 : BitVec 32) : BitVec 32 :=
  let c8_i32_9 : BitVec 32 := 8#32
  let v58 : BitVec 32 := Scalar.muli v57 c8_i32_9
  v58
def k0_cond2 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c250000_i32 : BitVec 32 := 250000#32
  let v2 : BitVec 32 := Scalar.muli v1 c250000_i32
  let c0_i32_0 : BitVec 32 := 0#32
  let v11 : BitVec 1 := Scalar.cmpi .sgt v2 c0_i32_0
  let v12 : BitVec 32 := Scalar.extui v11
  let c0_i32_1 : BitVec 32 := 0#32
  let v13 : BitVec 1 := Scalar.cmpi .slt v2 c0_i32_1
  let v14 : BitVec 32 := Scalar.extui v13
  let v15 : BitVec 32 := Scalar.subi v12 v14
  let c8_i32 : BitVec 32 := 8#32
  let c0_i32_2 : BitVec 32 := 0#32
  let v16 : BitVec 1 := Scalar.cmpi .sgt c8_i32 c0_i32_2
  let v17 : BitVec 32 := Scalar.extui v16
  let c0_i32_3 : BitVec 32 := 0#32
  let v18 : BitVec 1 := Scalar.cmpi .slt c8_i32 c0_i32_3
  let v19 : BitVec 32 := Scalar.extui v18
  let v20 : BitVec 32 := Scalar.subi v17 v19
  let v21 : BitVec 1 := Scalar.cmpi .ne v15 v20
  let v22 : BitVec 32 := Scalar.remsi v2 c8_i32
  let c0_i32_4 : BitVec 32 := 0#32
  let v23 : BitVec 1 := Scalar.cmpi .ne v22 c0_i32_4
  let v24 : BitVec 1 := Scalar.andi v21 v23
  let v10 : BitVec 32 := Scalar.divsi v2 c8_i32
  let c1_i32 : BitVec 32 := 1#32
  let v25 : BitVec 32 := Scalar.subi v10 c1_i32
  let v26 : BitVec 32 := Scalar.select v24 v25 v10
  let v37 : BitVec 1 := Scalar.cmpi .sge v36 v26
  let c31250_i32 : BitVec 32 := 31250#32
  let v27 : BitVec 32 := Scalar.addi v26 c31250_i32
  let v38 : BitVec 1 := Scalar.cmpi .slt v36 v27
  let v39 : BitVec 1 := Scalar.andi v37 v38
  let v40 : BitVec 32 := Scalar.extui v39
  let c0_i32_6 : BitVec 32 := 0#32
  let v41 : BitVec 1 := Scalar.cmpi .ne v40 c0_i32_6
  v41

def k0_off3 (v57 : BitVec 32) : Fin 1 → Nat :=
  let c8_i32_9 : BitVec 32 := 8#32
  let v58 : BitVec 32 := Scalar.muli v57 c8_i32_9
  let v59 : BitVec 32 := v58
  ![v59.toNat]

def k0_chk2 (i : grid0.Coords) (v36 : BitVec 32) (v57 : BitVec 32) : Prop :=
  (∀ (k0_h2 : k0_cond2 i v36 = 1#1), 8 ∣ (k0_mult2 v57).toNat) ∧
  (∀ (k0_h2 : k0_cond2 i v36 = 1#1), ∀ a, (k0_off3 v57) a + S8.size a ≤ S8000000.size a)
theorem k0_mult2_dvd : ∀ (i : grid0.Coords) (v36 : BitVec 32) (v57 : BitVec 32) (k0_hw2 : k0_chk2 i v36 v57), ∀ (k0_h2 : k0_cond2 i v36 = 1#1), 8 ∣ (k0_mult2 v57).toNat := fun i v36 v57 k0_hw2 k0_h2 => k0_hw2.1 k0_h2
theorem k0_off3_inb : ∀ (i : grid0.Coords) (v36 : BitVec 32) (v57 : BitVec 32) (k0_hw2 : k0_chk2 i v36 v57), ∀ (k0_h2 : k0_cond2 i v36 = 1#1), ∀ a, (k0_off3 v57) a + S8.size a ≤ S8000000.size a := fun i v36 v57 k0_hw2 k0_h2 => k0_hw2.2 k0_h2

def k0_mult3 (v57 : BitVec 32) : BitVec 32 :=
  let c8_i32_9 : BitVec 32 := 8#32
  let v58 : BitVec 32 := Scalar.muli v57 c8_i32_9
  v58
def k0_cond3 (i : grid0.Coords) (v43 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c250000_i32 : BitVec 32 := 250000#32
  let v2 : BitVec 32 := Scalar.muli v1 c250000_i32
  let c0_i32_0 : BitVec 32 := 0#32
  let v11 : BitVec 1 := Scalar.cmpi .sgt v2 c0_i32_0
  let v12 : BitVec 32 := Scalar.extui v11
  let c0_i32_1 : BitVec 32 := 0#32
  let v13 : BitVec 1 := Scalar.cmpi .slt v2 c0_i32_1
  let v14 : BitVec 32 := Scalar.extui v13
  let v15 : BitVec 32 := Scalar.subi v12 v14
  let c8_i32 : BitVec 32 := 8#32
  let c0_i32_2 : BitVec 32 := 0#32
  let v16 : BitVec 1 := Scalar.cmpi .sgt c8_i32 c0_i32_2
  let v17 : BitVec 32 := Scalar.extui v16
  let c0_i32_3 : BitVec 32 := 0#32
  let v18 : BitVec 1 := Scalar.cmpi .slt c8_i32 c0_i32_3
  let v19 : BitVec 32 := Scalar.extui v18
  let v20 : BitVec 32 := Scalar.subi v17 v19
  let v21 : BitVec 1 := Scalar.cmpi .ne v15 v20
  let v22 : BitVec 32 := Scalar.remsi v2 c8_i32
  let c0_i32_4 : BitVec 32 := 0#32
  let v23 : BitVec 1 := Scalar.cmpi .ne v22 c0_i32_4
  let v24 : BitVec 1 := Scalar.andi v21 v23
  let v10 : BitVec 32 := Scalar.divsi v2 c8_i32
  let c1_i32 : BitVec 32 := 1#32
  let v25 : BitVec 32 := Scalar.subi v10 c1_i32
  let v26 : BitVec 32 := Scalar.select v24 v25 v10
  let v44 : BitVec 1 := Scalar.cmpi .sge v43 v26
  let c31250_i32 : BitVec 32 := 31250#32
  let v27 : BitVec 32 := Scalar.addi v26 c31250_i32
  let v45 : BitVec 1 := Scalar.cmpi .slt v43 v27
  let v46 : BitVec 1 := Scalar.andi v44 v45
  let v47 : BitVec 32 := Scalar.extui v46
  let c0_i32_7 : BitVec 32 := 0#32
  let v48 : BitVec 1 := Scalar.cmpi .ne v47 c0_i32_7
  v48

def k0_off4 (v57 : BitVec 32) : Fin 1 → Nat :=
  let c8_i32_9 : BitVec 32 := 8#32
  let v58 : BitVec 32 := Scalar.muli v57 c8_i32_9
  let v59 : BitVec 32 := v58
  ![v59.toNat]

def k0_chk3 (i : grid0.Coords) (v43 : BitVec 32) (v57 : BitVec 32) : Prop :=
  (∀ (k0_h3 : k0_cond3 i v43 = 1#1), 8 ∣ (k0_mult3 v57).toNat) ∧
  (∀ (k0_h3 : k0_cond3 i v43 = 1#1), ∀ a, (k0_off4 v57) a + S8.size a ≤ S8000000.size a)
theorem k0_mult3_dvd : ∀ (i : grid0.Coords) (v43 : BitVec 32) (v57 : BitVec 32) (k0_hw3 : k0_chk3 i v43 v57), ∀ (k0_h3 : k0_cond3 i v43 = 1#1), 8 ∣ (k0_mult3 v57).toNat := fun i v43 v57 k0_hw3 k0_h3 => k0_hw3.1 k0_h3
theorem k0_off4_inb : ∀ (i : grid0.Coords) (v43 : BitVec 32) (v57 : BitVec 32) (k0_hw3 : k0_chk3 i v43 v57), ∀ (k0_h3 : k0_cond3 i v43 = 1#1), ∀ a, (k0_off4 v57) a + S8.size a ≤ S8000000.size a := fun i v43 v57 k0_hw3 k0_h3 => k0_hw3.2 k0_h3

def k0_mult4 (v57 : BitVec 32) : BitVec 32 :=
  let c8_i32_9 : BitVec 32 := 8#32
  let v58 : BitVec 32 := Scalar.muli v57 c8_i32_9
  v58
def k0_cond4 (i : grid0.Coords) (v50 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c250000_i32 : BitVec 32 := 250000#32
  let v2 : BitVec 32 := Scalar.muli v1 c250000_i32
  let c0_i32_0 : BitVec 32 := 0#32
  let v11 : BitVec 1 := Scalar.cmpi .sgt v2 c0_i32_0
  let v12 : BitVec 32 := Scalar.extui v11
  let c0_i32_1 : BitVec 32 := 0#32
  let v13 : BitVec 1 := Scalar.cmpi .slt v2 c0_i32_1
  let v14 : BitVec 32 := Scalar.extui v13
  let v15 : BitVec 32 := Scalar.subi v12 v14
  let c8_i32 : BitVec 32 := 8#32
  let c0_i32_2 : BitVec 32 := 0#32
  let v16 : BitVec 1 := Scalar.cmpi .sgt c8_i32 c0_i32_2
  let v17 : BitVec 32 := Scalar.extui v16
  let c0_i32_3 : BitVec 32 := 0#32
  let v18 : BitVec 1 := Scalar.cmpi .slt c8_i32 c0_i32_3
  let v19 : BitVec 32 := Scalar.extui v18
  let v20 : BitVec 32 := Scalar.subi v17 v19
  let v21 : BitVec 1 := Scalar.cmpi .ne v15 v20
  let v22 : BitVec 32 := Scalar.remsi v2 c8_i32
  let c0_i32_4 : BitVec 32 := 0#32
  let v23 : BitVec 1 := Scalar.cmpi .ne v22 c0_i32_4
  let v24 : BitVec 1 := Scalar.andi v21 v23
  let v10 : BitVec 32 := Scalar.divsi v2 c8_i32
  let c1_i32 : BitVec 32 := 1#32
  let v25 : BitVec 32 := Scalar.subi v10 c1_i32
  let v26 : BitVec 32 := Scalar.select v24 v25 v10
  let v51 : BitVec 1 := Scalar.cmpi .sge v50 v26
  let c31250_i32 : BitVec 32 := 31250#32
  let v27 : BitVec 32 := Scalar.addi v26 c31250_i32
  let v52 : BitVec 1 := Scalar.cmpi .slt v50 v27
  let v53 : BitVec 1 := Scalar.andi v51 v52
  let v54 : BitVec 32 := Scalar.extui v53
  let c0_i32_8 : BitVec 32 := 0#32
  let v55 : BitVec 1 := Scalar.cmpi .ne v54 c0_i32_8
  v55

def k0_off5 (v57 : BitVec 32) : Fin 1 → Nat :=
  let c8_i32_9 : BitVec 32 := 8#32
  let v58 : BitVec 32 := Scalar.muli v57 c8_i32_9
  let v59 : BitVec 32 := v58
  ![v59.toNat]

def k0_chk4 (i : grid0.Coords) (v50 : BitVec 32) (v57 : BitVec 32) : Prop :=
  (∀ (k0_h4 : k0_cond4 i v50 = 1#1), 8 ∣ (k0_mult4 v57).toNat) ∧
  (∀ (k0_h4 : k0_cond4 i v50 = 1#1), ∀ a, (k0_off5 v57) a + S8.size a ≤ S8000000.size a)
theorem k0_mult4_dvd : ∀ (i : grid0.Coords) (v50 : BitVec 32) (v57 : BitVec 32) (k0_hw4 : k0_chk4 i v50 v57), ∀ (k0_h4 : k0_cond4 i v50 = 1#1), 8 ∣ (k0_mult4 v57).toNat := fun i v50 v57 k0_hw4 k0_h4 => k0_hw4.1 k0_h4
theorem k0_off5_inb : ∀ (i : grid0.Coords) (v50 : BitVec 32) (v57 : BitVec 32) (k0_hw4 : k0_chk4 i v50 v57), ∀ (k0_h4 : k0_cond4 i v50 = 1#1), ∀ a, (k0_off5 v57) a + S8.size a ≤ S8000000.size a := fun i v50 v57 k0_hw4 k0_h4 => k0_hw4.2 k0_h4

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1000000x8 : Shape := ⟨2, ![1000000, 8]⟩
abbrev S4x8 : Shape := ⟨2, ![4, 8]⟩
abbrev S4 : Shape := ⟨1, ![4]⟩
abbrev S_ : Shape := ⟨0, ![]⟩
abbrev S4x1 : Shape := ⟨2, ![4, 1]⟩

abbrev nBuf : Space → Nat
  | .hbm => 12
  | .vmem => 0
  | .smem => 0
  | _ => 0

abbrev bufTy : (tb : Table) → Fin (tcTables nBuf tb) → BufTy
  | .hbm, ⟨0, _⟩ => ⟨S1000000x8, .f32⟩
  | .hbm, ⟨1, _⟩ => ⟨S4x8, .f32⟩
  | .hbm, ⟨2, _⟩ => ⟨S4, .i32⟩
  | .hbm, ⟨3, _⟩ => ⟨S_, .i32⟩
  | .hbm, ⟨4, _⟩ => ⟨S4, .i32⟩
  | .hbm, ⟨5, _⟩ => ⟨S4, .i1⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S4, .i32⟩
  | .hbm, ⟨10, _⟩ => ⟨S4x1, .i32⟩
  | .hbm, ⟨11, _⟩ => ⟨S1000000x8, .f32⟩
  | _, _ => ⟨S1000000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.TileIdeal.lean ====
/-
  One tile's work, piece by piece, for any reading of the floats: the move of a chunk of the table, the fetch of the
  updates and of the row numbers, and the change of one row under its guard, each with the contents that it leaves.
  `rowStep` is what one update row does to the flat output, `outVal` what the whole call computes.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Pipeline.Value
public import proofs.«01_k».proof.Proof.Gen.KernelIdeal
public import proofs.«01_k».proof.Proof.Gen.KernelIdeal.Skeleton

@[expose] public section

noncomputable section

namespace Cert.Proof.TileIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels of the launch: the handshakes, with no pipelined region beside them. -/
abbrev ΛP : Labels := Pipeline.Sig Λ₀ (Fin 0) fun p => (pcfgs (F := F) p).Adm
/-- The program's SparseCore configuration. -/
abbrev K : SparseCore.Cfg τ sig (ΛP (F := F)) 1 := sc (F := F)
/-- What a called label runs. -/
abbrev D [FloatOps F] : Defs nD τ sig (Elt F) (ΛP (F := F)) := Pipeline.defs pcfgs defs₀
/-- No loop of the program needs a variant. -/
abbrev 𝒱₀ : Variants := Variants.none
/-- The same, at the labels of the launch. -/
abbrev 𝒱 : Variants := 𝒱₀.lift
/-- The variant that the kernel starts with. -/
abbrev v₀ : 𝒱.V := Sum.inl none

/-- The ghost state of the call's handshakes. -/
abbrev UH : Type := URounds (GSem nD τ sig) ℕ
/-- The ghost state of the whole proof: the handshakes and the counters of the copies. -/
abbrev UU : Type := UH × Counters

local notation "𝕄" => MT nD τ sig (HIx 1) (Elt F) ℕ UU ℕ

/-- Where the handshakes' ghost state lies in it. -/
abbrev EH : Emb UH (MT nD τ sig (HIx 1) (Elt F) ℕ UU ℕ) := embL

/-- The flat table, as a tile sees it. -/
abbrev xW : Memref sig Kind.scVector Space.hbm S8000000 EltTy.f32 := Memref.whole main_v0_scv
/-- The padded update rows, as a tile sees them. -/
abbrev uW : Memref sig Kind.scVector Space.hbm S64 EltTy.f32 := Memref.whole main_v4_scv
/-- The padded row numbers, as a tile sees them. -/
abbrev iW : Memref sig Kind.scVector Space.hbm S16 EltTy.i32 := Memref.whole main_v7_scv
/-- The flat output, as a tile sees it. -/
abbrev oW : Memref sig Kind.scVector Space.hbm S8000000 EltTy.f32 := Memref.whole main_v8_scv
/-- A tile's own buffer for one chunk of the table. -/
abbrev bW : Memref sig Kind.scVector Space.vmem S50000 EltTy.f32 := Memref.whole cc0_scratch0
/-- A tile's own copy of the update rows. -/
abbrev uB : Memref sig Kind.scVector Space.vmem S64 EltTy.f32 := Memref.whole cc0_scratch1
/-- A tile's own copy of the row numbers. -/
abbrev iB : Memref sig Kind.scVector Space.vmem S16 EltTy.i32 := Memref.whole cc0_scratch2
/-- A tile's own buffer for the row that it changes. -/
abbrev rB : Memref sig Kind.scVector Space.vmem S16 EltTy.f32 := Memref.whole cc0_scratch3

variable [FloatOps F]

section Tile

variable (d : Dev nD) (L : grid0.Coords)

/-- The SparseCore of the tile at grid coordinates `L`. -/
abbrev cV (L : grid0.Coords) : Fin τ.nSC := (L 0).castLE hcore0
/-- The subcore of the tile at grid coordinates `L`. -/
abbrev jV (L : grid0.Coords) : Fin τ.nSub := (L 1).castLE hsub0

/-- A tile program of the launch. -/
abbrev PT (F : FTy → Type) (L : grid0.Coords) : Type → Type 1 := Prog (TpuEff nD τ sig (Elt F) Λ₀ (.scVector (cV L) (jV L)))

/-- One update's row: fetched, added to, written back; then the rest. -/
def rowThen {α : Type} (L : grid0.Coords) (sA sB : DmaSems sig S_) (off : Fin 1 → ℕ) (hoff : ∀ a, off a + S8.size a ≤ S8000000.size a)
    (ko : Fin 1 → ℕ) (hko : ∀ a, ko a + S16.size a ≤ S64.size a) (rest : PT F L α) :
    PT F L α := do
  Prog.lift (.enqueueDma (oW.slice (Rect.unit (s := S8000000) off S8.size hoff) (fun _ => rfl))
    (.here (rB.slice (Rect.unit (s := S16) ![0] S8.size inb_S16_S8_0) (fun _ => rfl))) (.dma sA.sem)
    (View.wordExact_bits rfl) (View.wordExact_bits rfl) ⟨Or.inl rfl, trivial⟩)
  Prog.lift (.waitDma2 sA.sem (oW.slice (Rect.unit (s := S8000000) off S8.size hoff) (fun _ => rfl))
    (rB.slice (Rect.unit (s := S16) ![0] S8.size inb_S16_S8_0) (fun _ => rfl)) (View.wordExact_bits rfl) (View.wordExact_bits rfl))
  let u : Vec F S16 .f32 ← Prog.lift (.load uB (Rect.unit (s := S64) ko S16.size hko).toLoadRect (View.loadsAt_vmem h_S16))
  let r : Vec F S16 .f32 ← Prog.lift (.load rB (Rect.unit (s := S16) ![0] S16.size inb_S16_S16_0).toLoadRect (View.loadsAt_vmem h_S16))
  let _r' : Vec F S16 .f32 ← Prog.lift (.load rB (Rect.unit (s := S16) ![0] S16.size inb_S16_S16_0).toLoadRect (View.loadsAt_vmem h_S16))
  Prog.lift (.store rB (Rect.unit (s := S16) ![0] S16.size inb_S16_S16_0) (k0_pay12 u r) Finset.univ (View.stores_vmem_bits_univ h_S16 rfl) (.inl rfl))
  Prog.lift (.enqueueDma (rB.slice (Rect.unit (s := S16) ![0] S8.size inb_S16_S8_0) (fun _ => rfl))
    (.here (oW.slice (Rect.unit (s := S8000000) off S8.size hoff) (fun _ => rfl))) (.dma sB.sem)
    (View.wordExact_bits rfl) (View.wordExact_bits rfl) ⟨Or.inl rfl, trivial⟩)
  Prog.lift (.waitDma2 sB.sem (rB.slice (Rect.unit (s := S16) ![0] S8.size inb_S16_S8_0) (fun _ => rfl))
    (oW.slice (Rect.unit (s := S8000000) off S8.size hoff) (fun _ => rfl)) (View.wordExact_bits rfl) (View.wordExact_bits rfl))
  rest

/-- One update's row by itself. -/
def rowProg (L : grid0.Coords) (sA sB : DmaSems sig S_) (off : Fin 1 → ℕ) (hoff : ∀ a, off a + S8.size a ≤ S8000000.size a)
    (ko : Fin 1 → ℕ) (hko : ∀ a, ko a + S16.size a ≤ S64.size a) : PT F L PUnit :=
  rowThen L sA sB off hoff ko hko (pure ⟨⟩)

/-- The change of one row followed by the rest of the task is the change of the row, then the rest. -/
theorem rowThen_eq {α : Type} (L : grid0.Coords) (sA sB : DmaSems sig S_) (off : Fin 1 → ℕ) (hoff : ∀ a, off a + S8.size a ≤ S8000000.size a)
    (ko : Fin 1 → ℕ) (hko : ∀ a, ko a + S16.size a ≤ S64.size a) (rest : PT F L α) :
    rowThen L sA sB off hoff ko hko rest = (rowProg L sA sB off hoff ko hko >>= fun _ => rest) := rfl

/-- A cast of a shape to itself changes nothing. -/
theorem castSelf {s : Shape} {α : Type} (v : s.Idx → α) (h : s.ShapeCasts s) : shapeCast s v h = v :=
  funext fun i => congrArg v (Shape.reshapeEquiv_self _ i)

/-- The word at place `n` of the padded updates. -/
abbrev uIx (n : ℕ) : S64.Idx := fun | 0 => ⟨n % 64, Nat.mod_lt _ (by decide)⟩

/-- Row `w` of the flat array with the updates from place `k` on added to it; the rest as it was. -/
def rowStep (w k : ℕ) (u : S64.Idx → F .f32) (f : S8000000.Idx → F .f32) : S8000000.Idx → F .f32 :=
  fun p => if (p 0).val / 8 = w then FloatOps.addf (f p) (u (uIx (k + (p 0).val % 8))) else f p

/-- What the eight words of the row hold after the write-back. -/
theorem row_val (w k : ℕ) (hk : k + 16 ≤ 64) (off : Fin 1 → ℕ) (hoff : ∀ a, off a + S8.size a ≤ S8000000.size a) (ho : off = ![8 * w])
    (ko : Fin 1 → ℕ) (hko : ∀ a, ko a + S16.size a ≤ S64.size a) (hk' : ko = ![k])
    (f : S8000000.Idx → F .f32) (fu : S64.Idx → F .f32) (fr : S16.Idx → F .f32)
    (hs : ∀ a, (Rect.unit (s := S8000000) off S8.size hoff).stride a = 1) (hs' : ∀ a, (Rect.unit (s := S16) ![0] S8.size inb_S16_S8_0).stride a = 1)
    (p : S8000000.Idx) (hp : p ∈ (oW.slice (Rect.unit (s := S8000000) off S8.size hoff) hs).view.set) :
    (oW.slice (Rect.unit (s := S8000000) off S8.size hoff) hs).view.writes (Elt F) f
      [⟨Rect.whole (Rect.unit (s := S8000000) off S8.size hoff).shape,
          ReadAs.same.apply
            (View.read (Elt F) (rB.slice (Rect.unit (s := S16) ![0] S8.size inb_S16_S8_0) hs').view
              (rB.view.writes (Elt F) fr
                [⟨Rect.unit (s := S16) ![0] S16.size inb_S16_S16_0,
                    k0_pay12
                      (View.readAt (Elt F) uB.view (Rect.unit (s := S64) ko S16.size hko).toLoadRect fu)
                      (View.readAt (Elt F) rB.view (Rect.unit (s := S16) ![0] S16.size inb_S16_S16_0).toLoadRect
                        (rB.view.writes (Elt F) fr
                          [⟨Rect.unit (s := S16) ![0] S8.size inb_S16_S8_0,
                              ReadAs.same.apply (View.read (Elt F) (oW.slice (Rect.unit (s := S8000000) off S8.size hoff) hs).view f)⟩]))⟩,
                  ⟨Rect.unit (s := S16) ![0] S8.size inb_S16_S8_0,
                    ReadAs.same.apply (View.read (Elt F) (oW.slice (Rect.unit (s := S8000000) off S8.size hoff) hs).view f)⟩]))⟩] p
      = rowStep w k fu f p := by
  subst ho hk'
  obtain ⟨x, -, rfl⟩ := Finset.mem_map.mp hp
  have hx : (x 0).val < 8 := (x 0).isLt
  have he : ((((oW.slice (Rect.unit (s := S8000000) ![8 * w] S8.size hoff) hs).view.emb x) : S8000000.Idx) 0).val = 8 * w + (x 0).val := by
    show 8 * w + 1 * (x 0).val = _
    omega
  refine (congrFun (View.read_writes_whole (Val := Elt F) (oW.slice (Rect.unit (s := S8000000) ![8 * w] S8.size hoff) hs).view f _) x).trans ?_
  let y : S16.Idx := fun | 0 => ⟨(x 0).val, by show (x 0).val < 16; omega⟩
  refine (View.read_writes_cons_hit_of_coords (Val := Elt F) rB.view fr (Rect.unit (s := S16) ![0] S16.size inb_S16_S16_0) _ _ y
    ((Rect.unit (s := S16) ![0] S8.size inb_S16_S8_0).emb x) ?_).trans ?_
  · intro a; match a with | 0 => rfl
  unfold k0_pay12 rowStep
  simp only [castSelf]
  rw [if_pos (by rw [he]; omega)]
  show FloatOps.addf _ _ = _
  refine congrArg₂ _ ?_ ?_
  · refine (View.read_writes_cons_hit_of_coords (Val := Elt F) rB.view fr (Rect.unit (s := S16) ![0] S8.size inb_S16_S8_0) _ _ x _ ?_).trans rfl
    intro a; match a with | 0 => show 0 + 1 * (x 0).val = _; rfl
  · show fu _ = fu _
    refine congrArg fu (funext fun a => Fin.ext ?_)
    match a with
    | 0 =>
      show k + 1 * (x 0).val = (k + _ % 8) % 64
      rw [he]; omega

set_option maxHeartbeats 4000000 in
/-- The change of one row: from the output at `f`, the updates at `fu` and any contents of the row buffer, the output ends with row `w` of `f` and the sixteen updates from `k` on added in its eight places. -/
theorem row_run (sA sB : DmaSems sig S_) (w k : ℕ) (hk : k + 16 ≤ 64) (off : Fin 1 → ℕ) (hoff : ∀ a, off a + S8.size a ≤ S8000000.size a)
    (ho : off = ![8 * w])
    (ko : Fin 1 → ℕ) (hko : ∀ a, ko a + S16.size a ≤ S64.size a) (hk' : ko = ![k]) (O : CellTallies nD τ sig (HIx 1)) (W : Waits sig (HIx 1))
    (f : S8000000.Idx → F .f32) (fu : S64.Idx → F .f32) (fr : S16.Idx → F .f32) :
    (iprop(Transfers.MayWaits (V d (cV L) (jV L)) (default : HIx 1) O
        ∗ ((oW.slice (Rect.unit (s := S8000000) off S8.size hoff) (fun _ => rfl)).view.loc (V d (cV L) (jV L))
            ↦[(oW.slice (Rect.unit (s := S8000000) off S8.size hoff) (fun _ => rfl)).view.set]{fullShare} f)
        ∗ (uB.view.loc (V d (cV L) (jV L)) ↦{fullShare} fu)
        ∗ (rB.view.loc (V d (cV L) (jV L)) ↦{fullShare} fr)
        ∗ semVal (V d (cV L) (jV L), SemLoc.dma sA.sem) 0 ∗ semVal (V d (cV L) (jV L), SemLoc.dma sB.sem) 0
        ∗ owes (V d (cV L) (jV L)) O W) : sProp 𝕄)
      ⊢ wp frame (wpE (defs₀ (F := F)) 𝒱₀ (V d (cV L) (jV L)) none) Set.univ (rowProg (F := F) L sA sB off hoff ko hko)
          fun _ => iprop(((oW.slice (Rect.unit (s := S8000000) off S8.size hoff) (fun _ => rfl)).view.loc (V d (cV L) (jV L))
            ↦[(oW.slice (Rect.unit (s := S8000000) off S8.size hoff) (fun _ => rfl)).view.set]{fullShare} (rowStep w k fu f : S8000000.Idx → F .f32))
          ∗ (uB.view.loc (V d (cV L) (jV L)) ↦{fullShare} fu)
          ∗ (∃ fr' : S16.Idx → F .f32, rB.view.loc (V d (cV L) (jV L)) ↦{fullShare} fr')
          ∗ semVal (V d (cV L) (jV L), SemLoc.dma sA.sem) 0 ∗ semVal (V d (cV L) (jV L), SemLoc.dma sB.sem) 0
          ∗ owes (V d (cV L) (jV L)) O (insert (SemLoc.dma sB.sem, default) (insert (SemLoc.dma sA.sem, default) W))) := by
  unfold rowProg rowThen
  iintro ⟨Hmw, Ho, Hu, Hr, HA, HB, HO⟩
  sl_exec
  sl_step
  isplitl [Ho]
  · sl_unfold_run_names
    iapply (Entails.of_eq (pointsTo_congr (row_val w k hk off hoff ho ko hko hk' f fu fr _ _)))
    iexact Ho
  isplitl [Hu]; · iexact Hu
  isplitl [Hr]; · iexists _; iexact Hr
  isplitl [HA]; · iexact HA
  isplitl [HB]; · iexact HB
  iexact HO

/-- One chunk of the copy: from the source to the tile's buffer, and from there to the output. -/
def moveProg (L : grid0.Coords) (sA sB : DmaSems sig S_) (off : Fin 1 → ℕ) (hoff : ∀ a, off a + S50000.size a ≤ S8000000.size a) : PT F L PUnit := do
  Prog.lift (.enqueueDma (xW.slice (Rect.unit (s := S8000000) off S50000.size hoff) (fun _ => rfl)) (.here bW) (.dma sA.sem)
    (View.wordExact_bits rfl) (Memref.isWhole_whole cc0_scratch0).wordExact ⟨Or.inl rfl, trivial⟩)
  Prog.lift (.waitDma2 sA.sem (xW.slice (Rect.unit (s := S8000000) off S50000.size hoff) (fun _ => rfl)) bW
    (View.wordExact_bits rfl) (Memref.isWhole_whole cc0_scratch0).wordExact)
  Prog.lift (.enqueueDma bW (.here (oW.slice (Rect.unit (s := S8000000) off S50000.size hoff) (fun _ => rfl))) (.dma sB.sem)
    (Memref.isWhole_whole cc0_scratch0).wordExact (View.wordExact_bits rfl) ⟨Or.inl rfl, trivial⟩)
  Prog.lift (.waitDma2 sB.sem bW (oW.slice (Rect.unit (s := S8000000) off S50000.size hoff) (fun _ => rfl))
    (Memref.isWhole_whole cc0_scratch0).wordExact (View.wordExact_bits rfl))
  pure ⟨⟩

/-- The updates and the row numbers fetched, the row numbers read. -/
def fetchProg (L : grid0.Coords) : PT F L (Vec F S16 .i32) := do
  Prog.lift (.enqueueDma uW (.here uB) (.dma cc0_scoped10.sem) (Memref.isWhole_whole main_v4_scv).wordExact (Memref.isWhole_whole cc0_scratch1).wordExact ⟨Or.inl rfl, trivial⟩)
  Prog.lift (.waitDma2 cc0_scoped10.sem uW uB (Memref.isWhole_whole main_v4_scv).wordExact (Memref.isWhole_whole cc0_scratch1).wordExact)
  Prog.lift (.enqueueDma iW (.here iB) (.dma cc0_scoped11.sem) (Memref.isWhole_whole main_v7_scv).wordExact (Memref.isWhole_whole cc0_scratch2).wordExact ⟨Or.inl rfl, trivial⟩)
  Prog.lift (.waitDma2 cc0_scoped11.sem iW iB (Memref.isWhole_whole main_v7_scv).wordExact (Memref.isWhole_whole cc0_scratch2).wordExact)
  Prog.lift (.load iB (Rect.unit (s := S16) ![0] S16.size inb_S16_S16_0).toLoadRect (View.loadsAt_vmem h_S16))

/-- One update: where the tile's rows hold row `v`, the three steps of row `w`; then the rest. -/
def branchProg {α : Type} (L : grid0.Coords) (sA sB : DmaSems sig S_) (v w : BitVec 32)
    (ko : Fin 1 → ℕ) (hko : ∀ a, ko a + S16.size a ≤ S64.size a) (rest : PT F L α) : PT F L α :=
  if h : k0_cond1 L v = 1#1 then do
    let hw ← Prog.lift (TpuEff.assume (k0_chk1 L v w) (k0_chk1.dec L v w))
    rowThen (F := F) L sA sB (k0_off2 w) (k0_off2_inb L v w hw.down h) ko hko rest
  else rest

/-- Row number `j` of the sixteen words. -/
abbrev iIx (n : ℕ) : S16.Idx := fun | 0 => ⟨n % 16, Nat.mod_lt _ (by decide)⟩

set_option maxRecDepth 65536 in
set_option maxHeartbeats 4000000 in
/-- The tile's program is the five chunks, the fetches and the four updates in turn. -/
theorem body_eq (L : grid0.Coords) : ∃ a b : BitVec 32,
    cc0__body (F := F) L xW (Memref.isWhole_whole _) uW (Memref.isWhole_whole _) iW (Memref.isWhole_whole _) oW (Memref.isWhole_whole _)
            bW (Memref.isWhole_whole _) uB (Memref.isWhole_whole _) iB (Memref.isWhole_whole _) rB (Memref.isWhole_whole _)
            cc0_scoped0 cc0_scoped1 cc0_scoped2 cc0_scoped3 cc0_scoped4 cc0_scoped5 cc0_scoped6 cc0_scoped7 cc0_scoped8 cc0_scoped9
            cc0_scoped10 cc0_scoped11 cc0_scoped12 cc0_scoped13 cc0_scoped14 cc0_scoped15 cc0_scoped16 cc0_scoped17 cc0_scoped18 cc0_scoped19
      = (do
          moveProg L cc0_scoped0 cc0_scoped1 (k0_off1 L 0#32) (k0_off1_inb L 0)
          moveProg L cc0_scoped2 cc0_scoped3 (k0_off1 L 50000#32) (k0_off1_inb L 1)
          moveProg L cc0_scoped4 cc0_scoped5 (k0_off1 L 100000#32) (k0_off1_inb L 2)
          moveProg L cc0_scoped6 cc0_scoped7 (k0_off1 L 150000#32) (k0_off1_inb L 3)
          moveProg L cc0_scoped8 cc0_scoped9 (k0_off1 L 200000#32) (k0_off1_inb L 4)
          let v8 ← fetchProg L
          let x : Σ' (v9 : IVec S16 32) (v26 : BitVec 32) (v27 : BitVec 32), IVec S1 32 ←
            branchProg L cc0_scoped12 cc0_scoped13 (extractAt ![0] (k0_pay10 v8) inpos_S1_p0) (extractAt ![0] (k0_pay11 v8) inpos_S1_p0) ![0] inb_S64_S16_0 (pure ⟨k0_pay9 v8, a, b, k0_pay13 v8⟩)
          branchProg L cc0_scoped14 cc0_scoped15 (extractAt ![0] x.2.2.2 inpos_S1_p0) (extractAt ![0] (k0_pay1 x.1) inpos_S1_p0) ![16] inb_S64_S16_16
            (branchProg L cc0_scoped16 cc0_scoped17 (extractAt ![0] (k0_pay3 x.1) inpos_S1_p0) (extractAt ![0] (k0_pay4 x.1) inpos_S1_p0) ![32] inb_S64_S16_32
              (branchProg L cc0_scoped18 cc0_scoped19 (extractAt ![0] (k0_pay6 x.1) inpos_S1_p0) (extractAt ![0] (k0_pay7 x.1) inpos_S1_p0) ![48] inb_S64_S16_48
                (pure ⟨⟩)))) := by
  rw [cc0__body_eq_skeleton]; unfold cc0__body_skel
  rw [k0_part1_eq_skeleton, k0_part2_eq_skeleton]
  exact ⟨_, _, rfl⟩

/-- The tile's number among the thirty-two. -/
abbrev tn (L : grid0.Coords) : ℕ := 2 * (L 1).val + (L 0).val

/-- There are 32 tiles. -/
theorem tn_lt (L : grid0.Coords) : tn L < 32 := by
  have h0 : (L 0).val < 2 := (L 0).isLt
  have h1 : (L 1).val < 16 := (L 1).isLt
  show 2 * (L 1).val + (L 0).val < 32
  omega

set_option maxRecDepth 65536 in
/-- The test: the word is at least the tile's first row and below its last plus one. -/
theorem cond_iff (L : grid0.Coords) (v : BitVec 32) : k0_cond1 L v = 1#1 ↔ 31250 * tn L ≤ v.toNat ∧ v.toNat < 31250 * tn L + 31250 := by
  obtain ⟨b, hc, hb⟩ : ∃ b : grid0.Coords → BitVec 32,
      (∀ L v, k0_cond1 L v = Scalar.cmpi .ne (Scalar.extui (Scalar.andi (Scalar.cmpi .sge v (b L)) (Scalar.cmpi .slt v (Scalar.addi (b L) 31250#32)))) 0#32)
        ∧ ∀ L : grid0.Coords, b L = BitVec.ofNat 32 (31250 * (2 * (L 1).val + (L 0).val)) := by
    refine ⟨_, fun L v => rfl, ?_⟩
    decide +kernel
  rw [hc, hb]
  have key : ∀ c e : Bool, Scalar.cmpi .ne (Scalar.extui (Scalar.andi (BitVec.ofBool c) (BitVec.ofBool e))) 0#32 = 1#1 ↔ c = true ∧ e = true := by
    decide
  have ht := tn_lt L
  have hn : 2 * (L 1).val + (L 0).val = tn L := rfl
  rw [hn]
  generalize tn L = n at ht ⊢
  refine (key (decide ((BitVec.ofNat 32 (31250 * n)).toInt ≤ v.toInt)) (decide (v.toInt < (BitVec.ofNat 32 (31250 * n) + 31250#32).toInt))).trans ?_
  rw [decide_eq_true_iff, decide_eq_true_iff]
  have hv := v.isLt
  have e1 : (BitVec.ofNat 32 (31250 * n)).toNat = 31250 * n := by rw [BitVec.toNat_ofNat]; omega
  have e2 : (BitVec.ofNat 32 (31250 * n) + 31250#32).toNat = 31250 * n + 31250 := by rw [BitVec.toNat_add, e1, BitVec.toNat_ofNat]; omega
  simp only [BitVec.toInt_eq_toNat_cond, e1, e2]
  split_ifs <;> omega

/-- The words of a slice of the output: those from its offset on, as many as its size. -/
theorem mem_slice (off size : Fin 1 → ℕ) (hoff : ∀ a, off a + size a ≤ S8000000.size a)
    (hs : ∀ a, (Rect.unit (s := S8000000) off size hoff).stride a = 1) (p : S8000000.Idx) :
    p ∈ (oW.slice (Rect.unit (s := S8000000) off size hoff) hs).view.set ↔ off 0 ≤ (p 0).val ∧ (p 0).val < off 0 + size 0 := by
  constructor
  · intro hp
    obtain ⟨x, -, rfl⟩ := Finset.mem_map.mp hp
    have hx : (x 0).val < size 0 := (x 0).isLt
    have he : ((((oW.slice (Rect.unit (s := S8000000) off size hoff) hs).view.emb x) : S8000000.Idx) 0).val = off 0 + 1 * (x 0).val := rfl
    rw [he]
    omega
  · intro hp
    refine Finset.mem_map.mpr ⟨(fun | 0 => ⟨(p 0).val - off 0, by show _ < size 0; omega⟩ : (Rect.unit (s := S8000000) off size hoff).shape.Idx),
      Finset.mem_univ _, funext fun a => Fin.ext ?_⟩
    match a with
    | 0 => show off 0 + 1 * ((p 0).val - off 0) = (p 0).val; omega

/-- A slice of the output written whole holds the payload. -/
theorem slice_writes (off size : Fin 1 → ℕ) (hoff : ∀ a, off a + size a ≤ S8000000.size a)
    (hs hs' : ∀ a, (Rect.unit (s := S8000000) off size hoff).stride a = 1) (X f : S8000000.Idx → F .f32)
    (g : (Rect.unit (s := S8000000) off size hoff).shape.Idx → F .f32)
    (hg : g = View.read (Elt F) (xW.slice (Rect.unit (s := S8000000) off size hoff) hs').view X)
    (p : S8000000.Idx) (hp : p ∈ (oW.slice (Rect.unit (s := S8000000) off size hoff) hs).view.set) :
    (oW.slice (Rect.unit (s := S8000000) off size hoff) hs).view.writes (Elt F) f
      [⟨Rect.whole (Rect.unit (s := S8000000) off size hoff).shape, g⟩] p = X p := by
  obtain ⟨x, -, rfl⟩ := Finset.mem_map.mp hp
  subst hg
  exact congrFun (View.read_writes_whole (Val := Elt F) (oW.slice (Rect.unit (s := S8000000) off size hoff) hs).view f _) x

/-- A buffer written whole reads back the payload. -/
theorem buf_read {κ : Kind} (b : Ref sig κ) (f g : b.ty.Contents (Elt F)) :
    ReadAs.same.apply (View.read (Elt F) (Memref.whole b).view (View.write (Elt F) (Memref.whole b).view f g Finset.univ)) = g :=
  View.write_whole_univ b f g

set_option maxHeartbeats 4000000 in
/-- The move of one chunk: a chunk of the table goes through the buffer into the same chunk of the output. -/
theorem move_run (sA sB : DmaSems sig S_) (off : Fin 1 → ℕ) (hoff : ∀ a, off a + S50000.size a ≤ S8000000.size a)
    (O : CellTallies nD τ sig (HIx 1)) (W : Waits sig (HIx 1)) (q : PosShare TreeShare)
    (X f : S8000000.Idx → F .f32) (fb : S50000.Idx → F .f32) :
    (iprop(Transfers.MayWaits (V d (cV L) (jV L)) (default : HIx 1) O
        ∗ (xW.view.loc (V d (cV L) (jV L)) ↦{q} X)
        ∗ ((oW.slice (Rect.unit (s := S8000000) off S50000.size hoff) (fun _ => rfl)).view.loc (V d (cV L) (jV L))
            ↦[(oW.slice (Rect.unit (s := S8000000) off S50000.size hoff) (fun _ => rfl)).view.set]{fullShare} f)
        ∗ (bW.view.loc (V d (cV L) (jV L)) ↦{fullShare} fb)
        ∗ semVal (V d (cV L) (jV L), SemLoc.dma sA.sem) 0 ∗ semVal (V d (cV L) (jV L), SemLoc.dma sB.sem) 0
        ∗ owes (V d (cV L) (jV L)) O W) : sProp 𝕄)
      ⊢ wp frame (wpE (defs₀ (F := F)) 𝒱₀ (V d (cV L) (jV L)) none) Set.univ (moveProg (F := F) L sA sB off hoff)
          fun _ => iprop((xW.view.loc (V d (cV L) (jV L)) ↦{q} X)
          ∗ ((oW.slice (Rect.unit (s := S8000000) off S50000.size hoff) (fun _ => rfl)).view.loc (V d (cV L) (jV L))
            ↦[(oW.slice (Rect.unit (s := S8000000) off S50000.size hoff) (fun _ => rfl)).view.set]{fullShare} X)
          ∗ (∃ fb' : S50000.Idx → F .f32, bW.view.loc (V d (cV L) (jV L)) ↦{fullShare} fb')
          ∗ semVal (V d (cV L) (jV L), SemLoc.dma sA.sem) 0 ∗ semVal (V d (cV L) (jV L), SemLoc.dma sB.sem) 0
          ∗ owes (V d (cV L) (jV L)) O (insert (SemLoc.dma sB.sem, default) (insert (SemLoc.dma sA.sem, default) W))) := by
  unfold moveProg
  iintro ⟨Hmw, Hx, Ho, Hb, HA, HB, HO⟩
  sl_exec
  sl_step
  isplitl [Hx]; · iexact Hx
  isplitl [Ho]
  · sl_unfold_run_names
    iapply (Entails.of_eq (pointsTo_congr (slice_writes off S50000.size hoff _ (fun _ => rfl) X f _ (buf_read cc0_scratch0 fb _))))
    iexact Ho
  isplitl [Hb]; · iexists _; iexact Hb
  isplitl [HA]; · iexact HA
  isplitl [HB]; · iexact HB
  iexact HO

set_option maxHeartbeats 4000000 in
/-- The fetch of the updates and of the row numbers into the tile, from read shares of both. -/
theorem fetch_run (O : CellTallies nD τ sig (HIx 1)) (W : Waits sig (HIx 1)) (q : PosShare TreeShare)
    (U fu : S64.Idx → F .f32) (I fi : S16.Idx → BitVec 32) :
    (iprop(Transfers.MayWaits (V d (cV L) (jV L)) (default : HIx 1) O
        ∗ (uW.view.loc (V d (cV L) (jV L)) ↦{q} U)
        ∗ (iW.view.loc (V d (cV L) (jV L)) ↦{q} I)
        ∗ (uB.view.loc (V d (cV L) (jV L)) ↦{fullShare} fu)
        ∗ (iB.view.loc (V d (cV L) (jV L)) ↦{fullShare} fi)
        ∗ semVal (V d (cV L) (jV L), SemLoc.dma cc0_scoped10.sem) 0 ∗ semVal (V d (cV L) (jV L), SemLoc.dma cc0_scoped11.sem) 0
        ∗ owes (V d (cV L) (jV L)) O W) : sProp 𝕄)
      ⊢ wp frame (wpE (defs₀ (F := F)) 𝒱₀ (V d (cV L) (jV L)) none) Set.univ (fetchProg (F := F) L)
          fun v8 => iprop(⌜v8 = I⌝ ∗ (uW.view.loc (V d (cV L) (jV L)) ↦{q} U)
          ∗ (iW.view.loc (V d (cV L) (jV L)) ↦{q} I)
          ∗ (uB.view.loc (V d (cV L) (jV L)) ↦{fullShare} U)
          ∗ (∃ fi' : S16.Idx → BitVec 32, iB.view.loc (V d (cV L) (jV L)) ↦{fullShare} fi')
          ∗ semVal (V d (cV L) (jV L), SemLoc.dma cc0_scoped10.sem) 0 ∗ semVal (V d (cV L) (jV L), SemLoc.dma cc0_scoped11.sem) 0
          ∗ owes (V d (cV L) (jV L)) O (insert (SemLoc.dma cc0_scoped11.sem, default) (insert (SemLoc.dma cc0_scoped10.sem, default) W))) := by
  unfold fetchProg
  iintro ⟨Hmw, Hu, Hi, Hub, Hib, HA, HB, HO⟩
  sl_exec
  sl_step
  sl_unfold_run_names
  isplitr
  · ipureintro
    refine funext fun x => (congrFun (View.read_write_univ (Val := Elt F) (v := iB.view) fi _) _).trans (congrArg I (funext fun a => Fin.ext ?_))
    match a with
    | 0 => show 0 + 1 * (x 0).val = (x 0).val; omega
  isplitl [Hu]; · iexact Hu
  isplitl [Hi]; · iexact Hi
  isplitl [Hub]
  · rw [show (View.write (Elt F) uB.view fu (ReadAs.same.apply (View.read (Elt F) uW.view U)) Finset.univ) = U from View.write_whole_univ _ _ _]
    iexact Hub
  isplitl [Hib]; · iexists _; iexact Hib
  isplitl [HA]; · iexact HA
  isplitl [HB]; · iexact HB
  iexact HO

/-- The words whose place, counted in runs of `n`, is `a`. -/
def band (n a : ℕ) : Finset S8000000.Idx := Finset.univ.filter fun p => (p 0).val / n = a

/-- An element is in band `a` of width `n` when its place divided by `n` is `a`. -/
theorem mem_band (n a : ℕ) (p : S8000000.Idx) : p ∈ band n a ↔ (p 0).val / n = a := by simp [band]

/-- The tile's words of the output, at contents `f`. -/
abbrev oPts (f : S8000000.Idx → F .f32) : sProp 𝕄 := oW.view.loc (V d (cV L) (jV L)) ↦[band 250000 (tn L)]{fullShare} f

/-- What the tile owes, its own waits apart. -/
abbrev owesOf (O : CellTallies nD τ sig (HIx 1)) (W : Waits sig (HIx 1)) : sProp 𝕄 :=
  iprop(∃ W' : Waits sig (HIx 1), ⌜∀ p ∈ W', p ∈ W ∨ p.2 = none⌝ ∗ owes (V d (cV L) (jV L)) O W')

/-- Two more waits, with no evidence to keep, keep what is known of the waits. -/
theorem waits_insert2 {W W' : Waits sig (HIx 1)} (h : ∀ p ∈ W', p ∈ W ∨ p.2 = none) (a b : SemLoc sig) :
    ∀ p ∈ insert (a, (default : HIx 1)) (insert (b, default) W'), p ∈ W ∨ p.2 = none := by
  intro p hp
  rcases Finset.mem_insert.mp hp with rfl | hp
  · exact .inr rfl
  rcases Finset.mem_insert.mp hp with rfl | hp
  · exact .inr rfl
  exact h p hp

/-- A row of another tile's: nothing of this tile's changes. -/
theorem rowStep_other (w k : ℕ) (u : S64.Idx → F .f32) (f : S8000000.Idx → F .f32) (p : S8000000.Idx) (h : (p 0).val / 8 ≠ w) :
    rowStep w k u f p = f p := if_neg h

set_option maxHeartbeats 4000000 in
/-- One row number's guarded step: the row is changed when it is one of the tile's, else nothing happens; either way the tile's band ends as `rowStep` says. -/
theorem branch_wp {α : Type} (sA sB : DmaSems sig S_) (v w : BitVec 32) (hvw : w = v) (k : ℕ) (hk : k + 16 ≤ 64)
    (ko : Fin 1 → ℕ) (hko : ∀ a, ko a + S16.size a ≤ S64.size a) (hk' : ko = ![k]) (O : CellTallies nD τ sig (HIx 1)) (W : Waits sig (HIx 1))
    (f : S8000000.Idx → F .f32) (fu : S64.Idx → F .f32) (rest : PT F L α) (Φ : α → sProp 𝕄) :
    (iprop(Transfers.MayWaits (V d (cV L) (jV L)) (default : HIx 1) O
        ∗ oPts d L f ∗ (uB.view.loc (V d (cV L) (jV L)) ↦{fullShare} fu)
        ∗ (∃ fr : S16.Idx → F .f32, rB.view.loc (V d (cV L) (jV L)) ↦{fullShare} fr)
        ∗ semVal (V d (cV L) (jV L), SemLoc.dma sA.sem) 0 ∗ semVal (V d (cV L) (jV L), SemLoc.dma sB.sem) 0
        ∗ owesOf (F := F) d L O W
        ∗ ((oPts d L (rowStep v.toNat k fu f) ∗ (uB.view.loc (V d (cV L) (jV L)) ↦{fullShare} fu)
            ∗ (∃ fr : S16.Idx → F .f32, rB.view.loc (V d (cV L) (jV L)) ↦{fullShare} fr)
            ∗ semVal (V d (cV L) (jV L), SemLoc.dma sA.sem) 0 ∗ semVal (V d (cV L) (jV L), SemLoc.dma sB.sem) 0
            ∗ owesOf (F := F) d L O W)
          -∗ wp frame (wpE (defs₀ (F := F)) 𝒱₀ (V d (cV L) (jV L)) none) Set.univ rest Φ)) : sProp 𝕄)
      ⊢ wp frame (wpE (defs₀ (F := F)) 𝒱₀ (V d (cV L) (jV L)) none) Set.univ (branchProg (F := F) L sA sB v w ko hko rest) Φ := by
  subst hvw
  have ht := tn_lt L
  by_cases h : k0_cond1 L w = 1#1
  · have hc := (cond_iff L w).mp h
    have h8 : (k0_mult1 w).toNat = 8 * w.toNat := by
      show (w * 8#32).toNat = _
      rw [BitVec.toNat_mul, show (8#32 : BitVec 32).toNat = 8 from rfl, Nat.mod_eq_of_lt (by omega)]; omega
    have hoff : k0_off2 w = ![8 * w.toNat] := congrArg (fun n => ![n]) h8
    have hchk : k0_chk1 L w w := by
      refine ⟨fun _ => ⟨w.toNat, h8⟩, fun _ a => ?_⟩
      rw [hoff]
      match a with
      | 0 => show 8 * w.toNat + 8 ≤ 8000000; omega
    have hsub : (oW.slice (Rect.unit (s := S8000000) (k0_off2 w) S8.size (k0_off2_inb L w w hchk h)) (fun _ => rfl)).view.set ⊆ band 250000 (tn L) := by
      intro p hp
      have h2 := (mem_slice (k0_off2 w) S8.size (k0_off2_inb L w w hchk h) (fun _ => rfl) p).mp hp
      rw [hoff] at h2
      have h3 : 8 * w.toNat ≤ (p 0).val ∧ (p 0).val < 8 * w.toNat + 8 := h2
      rw [mem_band]; omega
    have hrest : ∀ p ∈ band 250000 (tn L) \ (oW.slice (Rect.unit (s := S8000000) (k0_off2 w) S8.size (k0_off2_inb L w w hchk h)) (fun _ => rfl)).view.set,
        f p = rowStep w.toNat k fu f p := by
      intro p hp
      refine (rowStep_other _ _ _ _ _ fun e => (Finset.mem_sdiff.mp hp).2 ((mem_slice (k0_off2 w) S8.size (k0_off2_inb L w w hchk h) (fun _ => rfl) p).mpr ?_)).symm
      rw [hoff]
      show 8 * w.toNat ≤ (p 0).val ∧ (p 0).val < 8 * w.toNat + 8
      omega
    rw [show branchProg (F := F) L sA sB w w ko hko rest
        = Prog.op (TpuEff.assume (k0_chk1 L w w) (k0_chk1.dec L w w)) fun hw => rowThen (F := F) L sA sB (k0_off2 w) (k0_off2_inb L w w hw.down h) ko hko rest
      from dif_pos h, wp_assume_of _ _ _ _ hchk, rowThen_eq, wp_bind]
    iintro ⟨#Hmw, Ho, Hu, ⟨%fr, Hr⟩, HA, HB, ⟨%W', %hW', HO⟩, HK⟩
    ihave Ho' := (pointsTo_split_subset hsub).1 $$ Ho
    icases Ho' with ⟨Hrow, Hothers⟩
    iapply (wp_wand_r Idealize.ShloMosaic.frame (wpE (defs₀ (F := F)) 𝒱₀ (V d (cV L) (jV L)) none) Set.univ)
    isplitl [Hrow Hu Hr HA HB HO]
    · iapply (row_run d L sA sB w.toNat k hk (k0_off2 w) (k0_off2_inb L w w hchk h) hoff ko hko hk' O W' f fu fr)
      isplitr; · iexact Hmw
      isplitl [Hrow]; · iexact Hrow
      isplitl [Hu]; · iexact Hu
      isplitl [Hr]; · iexact Hr
      isplitl [HA]; · iexact HA
      isplitl [HB]; · iexact HB
      iexact HO
    iintro %_ ⟨Hrow, Hu, Hr, HA, HB, HO⟩
    iapply HK
    isplitl [Hrow Hothers]
    · iapply (pointsTo_split_subset hsub).2
      isplitl [Hrow]; · iexact Hrow
      iapply (Entails.of_eq (pointsTo_congr hrest)); iexact Hothers
    isplitl [Hu]; · iexact Hu
    isplitl [Hr]; · iexact Hr
    isplitl [HA]; · iexact HA
    isplitl [HB]; · iexact HB
    iexists (insert (SemLoc.dma sB.sem, default) (insert (SemLoc.dma sA.sem, default) W'))
    isplitr
    · ipureintro; exact waits_insert2 hW' _ _
    iexact HO
  · have hc : ¬(31250 * tn L ≤ w.toNat ∧ w.toNat < 31250 * tn L + 31250) := fun e => h ((cond_iff L w).mpr e)
    have hsame : ∀ p ∈ band 250000 (tn L), f p = rowStep w.toNat k fu f p := by
      intro p hp
      have hp' := (mem_band _ _ _).mp hp
      exact (rowStep_other _ _ _ _ _ fun e => hc (by omega)).symm
    rw [show branchProg (F := F) L sA sB w w ko hko rest = rest from dif_neg h]
    iintro ⟨-, Ho, Hu, Hr, HA, HB, HO, HK⟩
    iapply HK
    isplitl [Ho]
    · iapply (Entails.of_eq (pointsTo_congr hsame)); iexact Ho
    isplitl [Hu]; · iexact Hu
    isplitl [Hr]; · iexact Hr
    isplitl [HA]; · iexact HA
    isplitl [HB]; · iexact HB
    iexact HO

/-- A run of `n * k` words is `k` runs of `n`. -/
theorem band_split (n k a : ℕ) (hk : 0 < k) : band (n * k) a = (Finset.univ : Finset (Fin k)).biUnion fun r => band n (k * a + r.val) := by
  ext p
  simp only [Finset.mem_biUnion, Finset.mem_univ, true_and, mem_band]
  rw [← Nat.div_div_eq_div_mul]
  generalize (p 0).val / n = z
  constructor
  · rintro rfl
    exact ⟨⟨z % k, Nat.mod_lt _ hk⟩, (Nat.div_add_mod z k).symm⟩
  · rintro ⟨r, rfl⟩
    rw [Nat.mul_add_div hk, Nat.div_eq_of_lt r.isLt, Nat.add_zero]

/-- Two bands of one width have nothing in common. -/
theorem band_disjoint (n : ℕ) {a b : ℕ} (h : a ≠ b) : Disjoint (band n a) (band n b) :=
  Finset.disjoint_left.mpr fun p ha hb => h (((mem_band _ _ _).mp ha).symm.trans ((mem_band _ _ _).mp hb))

/-- One chunk's words of the output, at contents `f`. -/
abbrev cPts (m : ℕ) (f : S8000000.Idx → F .f32) : sProp 𝕄 := oW.view.loc (V d (cV L) (jV L)) ↦[band 50000 m]{fullShare} f

/-- The tile's words are its five chunks. -/
theorem oPts_eq (f : S8000000.Idx → F .f32) :
    oPts d L f = iprop(cPts d L (5 * tn L + 0) f ∗ cPts d L (5 * tn L + 1) f ∗ cPts d L (5 * tn L + 2) f ∗ cPts d L (5 * tn L + 3) f ∗ cPts d L (5 * tn L + 4) f) := by
  have e : band 250000 (tn L) = (Finset.univ : Finset (Fin 5)).biUnion fun r => band 50000 (5 * tn L + r.val) := band_split 50000 5 (tn L) (by omega)
  show (oW.view.loc (V d (cV L) (jV L)) ↦[band 250000 (tn L)]{fullShare} f : sProp 𝕄) = _
  rw [e, pointsTo_biUnion _ _ (fun t _ t' _ h => band_disjoint 50000 (fun e => h (Fin.ext (by omega))))]
  rw [show (Finset.univ : Finset (Fin 5)) = {0, 1, 2, 3, 4} from by decide,
    SparseCore.bigSep_insert' (by decide), SparseCore.bigSep_insert' (by decide), SparseCore.bigSep_insert' (by decide), SparseCore.bigSep_insert' (by decide),
    bigSep_singleton]
  rfl

set_option maxHeartbeats 4000000 in
/-- The move of one chunk, as a step of the task: the chunk of the output ends with the table's elements. -/
theorem move_wp {α : Type} (sA sB : DmaSems sig S_) (off : Fin 1 → ℕ) (hoff : ∀ a, off a + S50000.size a ≤ S8000000.size a) (m : ℕ) (ho : off = ![50000 * m])
    (O : CellTallies nD τ sig (HIx 1)) (W : Waits sig (HIx 1)) (q : PosShare TreeShare)
    (X f : S8000000.Idx → F .f32) (rest : PT F L α) (Φ : α → sProp 𝕄) :
    (iprop(Transfers.MayWaits (V d (cV L) (jV L)) (default : HIx 1) O
        ∗ (xW.view.loc (V d (cV L) (jV L)) ↦{q} X) ∗ cPts d L m f
        ∗ (∃ fb : S50000.Idx → F .f32, bW.view.loc (V d (cV L) (jV L)) ↦{fullShare} fb)
        ∗ semVal (V d (cV L) (jV L), SemLoc.dma sA.sem) 0 ∗ semVal (V d (cV L) (jV L), SemLoc.dma sB.sem) 0
        ∗ owesOf (F := F) d L O W
        ∗ (((xW.view.loc (V d (cV L) (jV L)) ↦{q} X) ∗ cPts d L m X
            ∗ (∃ fb : S50000.Idx → F .f32, bW.view.loc (V d (cV L) (jV L)) ↦{fullShare} fb)
            ∗ semVal (V d (cV L) (jV L), SemLoc.dma sA.sem) 0 ∗ semVal (V d (cV L) (jV L), SemLoc.dma sB.sem) 0
            ∗ owesOf (F := F) d L O W)
          -∗ wp frame (wpE (defs₀ (F := F)) 𝒱₀ (V d (cV L) (jV L)) none) Set.univ rest Φ)) : sProp 𝕄)
      ⊢ wp frame (wpE (defs₀ (F := F)) 𝒱₀ (V d (cV L) (jV L)) none) Set.univ (moveProg (F := F) L sA sB off hoff >>= fun _ => rest) Φ := by
  have hset : (oW.slice (Rect.unit (s := S8000000) off S50000.size hoff) (fun _ => rfl)).view.set = band 50000 m := by
    ext p
    refine (mem_slice off S50000.size hoff (fun _ => rfl) p).trans (Iff.trans ?_ (mem_band 50000 m p).symm)
    rw [ho]
    show 50000 * m ≤ (p 0).val ∧ (p 0).val < 50000 * m + 50000 ↔ _
    omega
  have hpts : ∀ g : S8000000.Idx → F .f32, ((oW.slice (Rect.unit (s := S8000000) off S50000.size hoff) (fun _ => rfl)).view.loc (V d (cV L) (jV L))
      ↦[(oW.slice (Rect.unit (s := S8000000) off S50000.size hoff) (fun _ => rfl)).view.set]{fullShare} g : sProp 𝕄) = cPts d L m g := fun g => by rw [hset]
  rw [wp_bind]
  iintro ⟨#Hmw, Hx, Ho, ⟨%fb, Hb⟩, HA, HB, ⟨%W', %hW', HO⟩, HK⟩
  iapply (wp_wand_r Idealize.ShloMosaic.frame (wpE (defs₀ (F := F)) 𝒱₀ (V d (cV L) (jV L)) none) Set.univ)
  isplitl [Hx Ho Hb HA HB HO]
  · iapply (move_run d L sA sB off hoff O W' q X f fb)
    isplitr; · iexact Hmw
    isplitl [Hx]; · iexact Hx
    isplitl [Ho]; · iapply (Entails.of_eq (hpts f).symm); iexact Ho
    isplitl [Hb]; · iexact Hb
    isplitl [HA]; · iexact HA
    isplitl [HB]; · iexact HB
    iexact HO
  iintro %_ ⟨Hx, Ho, Hb, HA, HB, HO⟩
  iapply HK
  isplitl [Hx]; · iexact Hx
  isplitl [Ho]; · iapply (Entails.of_eq (hpts X)); iexact Ho
  isplitl [Hb]; · iexact Hb
  isplitl [HA]; · iexact HA
  isplitl [HB]; · iexact HB
  iexists (insert (SemLoc.dma sB.sem, default) (insert (SemLoc.dma sA.sem, default) W'))
  isplitr
  · ipureintro; exact waits_insert2 hW' _ _
  iexact HO

/-- What the launch leaves of the flat array: the four updates in turn, each on its own row. -/
def outVal (X : S8000000.Idx → F .f32) (U : S64.Idx → F .f32) (I : S16.Idx → BitVec 32) : S8000000.Idx → F .f32 :=
  rowStep (I (iIx 3)).toNat 48 U (rowStep (I (iIx 2)).toNat 32 U (rowStep (I (iIx 1)).toNat 16 U (rowStep (I (iIx 0)).toNat 0 U X)))

/-- The word the kernel takes out of the sixteen at place `n`. -/
theorem word_at (I : S16.Idx → BitVec 32) (n : ℕ) (hn : n < 16) (h : S16.ShapeCasts S16) (hsl) :
    extractAt ![0] (extractStridedSlice S1 ![n] (shapeCast S16 I h) hsl) inpos_S1_p0 = I (iIx n) := by
  rw [castSelf]
  refine congrArg I (funext fun a => Fin.ext ?_)
  match a with
  | 0 => show n + 0 = n % 16; omega

end Tile

end Cert.Proof.TileIdeal

end
-- ==== Proof.TileRunIdeal.lean ====
/-
  One tile's whole task, for any reading of the floats: five moves, the fetch, and the four guarded row changes. From any
  contents of its band of the output it leaves the band at `outVal` of the operands.
-/
module

public import proofs.«01_k».proof.Proof.TileIdeal

@[expose] public section

noncomputable section

namespace Cert.Proof.TileIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- The tile's own semaphores of the first part, all at rest. -/
abbrev sem0 (s : DmaSems sig S_) : sProp 𝕄 := semVal (V d (cV L) (jV L), SemLoc.dma s.sem) 0

/-- Chunk `r` of tile `L` begins at element `50000 * (5 * tn L + r)`. -/
theorem off_band (r : Fin 5) : k0_off1 L (BitVec.ofNat 32 (50000 * r.val)) = ![50000 * (5 * tn L + r.val)] := by
  rw [k0_off1_eq L r]
  have e : 500000 * (L 1).val + 250000 * (L 0).val + 50000 * r.val = 50000 * (5 * (2 * (L 1).val + (L 0).val) + r.val) := by omega
  rw [e]

set_option maxHeartbeats 4000000 in
/-- The fetch of the updates and of the row numbers, as a step of the task. -/
theorem fetch_wp {α : Type} (O : CellTallies nD τ sig (HIx 1)) (W : Waits sig (HIx 1)) (q : PosShare TreeShare)
    (U : S64.Idx → F .f32) (I : S16.Idx → BitVec 32) (rest : Vec F S16 .i32 → PT F L α) (Φ : α → sProp 𝕄) :
    (iprop(Transfers.MayWaits (V d (cV L) (jV L)) (default : HIx 1) O
        ∗ (uW.view.loc (V d (cV L) (jV L)) ↦{q} U) ∗ (iW.view.loc (V d (cV L) (jV L)) ↦{q} I)
        ∗ (∃ fu : S64.Idx → F .f32, uB.view.loc (V d (cV L) (jV L)) ↦{fullShare} fu)
        ∗ (∃ fi : S16.Idx → BitVec 32, iB.view.loc (V d (cV L) (jV L)) ↦{fullShare} fi)
        ∗ sem0 (F := F) d L cc0_scoped10 ∗ sem0 (F := F) d L cc0_scoped11
        ∗ owesOf (F := F) d L O W
        ∗ (((uW.view.loc (V d (cV L) (jV L)) ↦{q} U) ∗ (iW.view.loc (V d (cV L) (jV L)) ↦{q} I)
            ∗ (uB.view.loc (V d (cV L) (jV L)) ↦{fullShare} U)
            ∗ (∃ fi : S16.Idx → BitVec 32, iB.view.loc (V d (cV L) (jV L)) ↦{fullShare} fi)
            ∗ sem0 (F := F) d L cc0_scoped10 ∗ sem0 (F := F) d L cc0_scoped11
            ∗ owesOf (F := F) d L O W)
          -∗ wp frame (wpE (defs₀ (F := F)) 𝒱₀ (V d (cV L) (jV L)) none) Set.univ (rest I) Φ)) : sProp 𝕄)
      ⊢ wp frame (wpE (defs₀ (F := F)) 𝒱₀ (V d (cV L) (jV L)) none) Set.univ (fetchProg (F := F) L >>= rest) Φ := by
  rw [wp_bind]
  iintro ⟨#Hmw, Hu, Hi, ⟨%fu, Hub⟩, ⟨%fi, Hib⟩, HA, HB, ⟨%W', %hW', HO⟩, HK⟩
  iapply (wp_wand_r Idealize.ShloMosaic.frame (wpE (defs₀ (F := F)) 𝒱₀ (V d (cV L) (jV L)) none) Set.univ)
  isplitl [Hu Hi Hub Hib HA HB HO]
  · iapply (fetch_run d L O W' q U fu I fi)
    isplitr; · iexact Hmw
    isplitl [Hu]; · iexact Hu
    isplitl [Hi]; · iexact Hi
    isplitl [Hub]; · iexact Hub
    isplitl [Hib]; · iexact Hib
    isplitl [HA]; · iexact HA
    isplitl [HB]; · iexact HB
    iexact HO
  iintro %v8 ⟨%hv, Hu, Hi, Hub, Hib, HA, HB, HO⟩
  subst hv
  iapply HK
  isplitl [Hu]; · iexact Hu
  isplitl [Hi]; · iexact Hi
  isplitl [Hub]; · iexact Hub
  isplitl [Hib]; · iexact Hib
  isplitl [HA]; · iexact HA
  isplitl [HB]; · iexact HB
  iexists (insert (SemLoc.dma cc0_scoped11.sem, default) (insert (SemLoc.dma cc0_scoped10.sem, default) W'))
  isplitr
  · ipureintro; exact waits_insert2 hW' _ _
  iexact HO

/-- The launch's value with the words as the kernel takes them out. -/
theorem outVal_eq (X : S8000000.Idx → F .f32) (U : S64.Idx → F .f32) (I : S16.Idx → BitVec 32) :
    rowStep (extractAt ![0] (k0_pay6 (k0_pay9 (F := F) I)) inpos_S1_p0).toNat 48 U
      (rowStep (extractAt ![0] (k0_pay3 (k0_pay9 (F := F) I)) inpos_S1_p0).toNat 32 U
        (rowStep (extractAt ![0] (k0_pay13 (F := F) I) inpos_S1_p0).toNat 16 U
          (rowStep (extractAt ![0] (k0_pay10 (F := F) I) inpos_S1_p0).toNat 0 U X))) = outVal X U I := by
  unfold outVal k0_pay6 k0_pay3 k0_pay13 k0_pay10 k0_pay9
  rw [word_at I 0 (by omega), word_at I 1 (by omega), word_at I 2 (by omega), word_at I 3 (by omega)]

set_option maxHeartbeats 8000000 in
/-- The tile's whole program: the operands as they were, its words of the output at the launch's value, everything else at rest. -/
theorem tile_run (O : CellTallies nD τ sig (HIx 1)) (W : Waits sig (HIx 1)) (q : PosShare TreeShare)
    (X f : S8000000.Idx → F .f32) (U : S64.Idx → F .f32) (I : S16.Idx → BitVec 32) :
    (iprop(Transfers.MayWaits (V d (cV L) (jV L)) (default : HIx 1) O
        ∗ (xW.view.loc (V d (cV L) (jV L)) ↦{q} X) ∗ (uW.view.loc (V d (cV L) (jV L)) ↦{q} U) ∗ (iW.view.loc (V d (cV L) (jV L)) ↦{q} I)
        ∗ oPts d L f
        ∗ (∃ fb : S50000.Idx → F .f32, bW.view.loc (V d (cV L) (jV L)) ↦{fullShare} fb)
        ∗ (∃ fu : S64.Idx → F .f32, uB.view.loc (V d (cV L) (jV L)) ↦{fullShare} fu)
        ∗ (∃ fi : S16.Idx → BitVec 32, iB.view.loc (V d (cV L) (jV L)) ↦{fullShare} fi)
        ∗ (∃ fr : S16.Idx → F .f32, rB.view.loc (V d (cV L) (jV L)) ↦{fullShare} fr)
        ∗ (sem0 (F := F) d L cc0_scoped0 ∗ sem0 (F := F) d L cc0_scoped1 ∗ sem0 (F := F) d L cc0_scoped2 ∗ sem0 (F := F) d L cc0_scoped3 ∗ sem0 (F := F) d L cc0_scoped4 ∗ sem0 (F := F) d L cc0_scoped5 ∗ sem0 (F := F) d L cc0_scoped6 ∗ sem0 (F := F) d L cc0_scoped7 ∗ sem0 (F := F) d L cc0_scoped8 ∗ sem0 (F := F) d L cc0_scoped9 ∗ sem0 (F := F) d L cc0_scoped10 ∗ sem0 (F := F) d L cc0_scoped11 ∗ sem0 (F := F) d L cc0_scoped12 ∗ sem0 (F := F) d L cc0_scoped13 ∗ sem0 (F := F) d L cc0_scoped14 ∗ sem0 (F := F) d L cc0_scoped15 ∗ sem0 (F := F) d L cc0_scoped16 ∗ sem0 (F := F) d L cc0_scoped17 ∗ sem0 (F := F) d L cc0_scoped18 ∗ sem0 (F := F) d L cc0_scoped19)
        ∗ owes (V d (cV L) (jV L)) O W) : sProp 𝕄)
      ⊢ wp frame (wpE (defs₀ (F := F)) 𝒱₀ (V d (cV L) (jV L)) none) Set.univ
          (cc0__body L xW (Memref.isWhole_whole _) uW (Memref.isWhole_whole _) iW (Memref.isWhole_whole _) oW (Memref.isWhole_whole _)
            bW (Memref.isWhole_whole _) uB (Memref.isWhole_whole _) iB (Memref.isWhole_whole _) rB (Memref.isWhole_whole _)
            cc0_scoped0 cc0_scoped1 cc0_scoped2 cc0_scoped3 cc0_scoped4 cc0_scoped5 cc0_scoped6 cc0_scoped7 cc0_scoped8 cc0_scoped9
            cc0_scoped10 cc0_scoped11 cc0_scoped12 cc0_scoped13 cc0_scoped14 cc0_scoped15 cc0_scoped16 cc0_scoped17 cc0_scoped18 cc0_scoped19)
          fun _ => iprop(((xW.view.loc (V d (cV L) (jV L)) ↦{q} X) ∗ (uW.view.loc (V d (cV L) (jV L)) ↦{q} U) ∗ (iW.view.loc (V d (cV L) (jV L)) ↦{q} I)
              ∗ oPts d L (outVal X U I))
            ∗ ((∃ fb : S50000.Idx → F .f32, bW.view.loc (V d (cV L) (jV L)) ↦{fullShare} fb)
              ∗ (∃ fu : S64.Idx → F .f32, uB.view.loc (V d (cV L) (jV L)) ↦{fullShare} fu)
              ∗ (∃ fi : S16.Idx → BitVec 32, iB.view.loc (V d (cV L) (jV L)) ↦{fullShare} fi)
              ∗ (∃ fr : S16.Idx → F .f32, rB.view.loc (V d (cV L) (jV L)) ↦{fullShare} fr))
            ∗ (sem0 (F := F) d L cc0_scoped0 ∗ sem0 (F := F) d L cc0_scoped1 ∗ sem0 (F := F) d L cc0_scoped2 ∗ sem0 (F := F) d L cc0_scoped3 ∗ sem0 (F := F) d L cc0_scoped4 ∗ sem0 (F := F) d L cc0_scoped5 ∗ sem0 (F := F) d L cc0_scoped6 ∗ sem0 (F := F) d L cc0_scoped7 ∗ sem0 (F := F) d L cc0_scoped8 ∗ sem0 (F := F) d L cc0_scoped9 ∗ sem0 (F := F) d L cc0_scoped10 ∗ sem0 (F := F) d L cc0_scoped11 ∗ sem0 (F := F) d L cc0_scoped12 ∗ sem0 (F := F) d L cc0_scoped13 ∗ sem0 (F := F) d L cc0_scoped14 ∗ sem0 (F := F) d L cc0_scoped15 ∗ sem0 (F := F) d L cc0_scoped16 ∗ sem0 (F := F) d L cc0_scoped17 ∗ sem0 (F := F) d L cc0_scoped18 ∗ sem0 (F := F) d L cc0_scoped19)
            ∗ owesOf (F := F) d L O W) := by
  obtain ⟨a, b, hb⟩ := body_eq (F := F) L
  rw [hb, oPts_eq]
  iintro ⟨#Hmw, Hx, Hu, Hi, ⟨Ho0, Ho1, Ho2, Ho3, Ho4⟩, Hb, Hub, Hib, Hrb, ⟨H0, H1, H2, H3, H4, H5, H6, H7, H8, H9, H10, H11, H12, H13, H14, H15, H16, H17, H18, H19⟩, HO⟩
  ihave HO := (show owes (V d (cV L) (jV L)) O W ⊢ owesOf (F := F) d L O W from by
    iintro HO; iexists W; isplitr
    · ipureintro; exact fun p hp => .inl hp
    iexact HO) $$ HO
  iapply (move_wp d L cc0_scoped0 cc0_scoped1 _ _ (5 * tn L + 0) (off_band L 0) O W q X f _ _)
  isplitr; · iexact Hmw
  isplitl [Hx]; · iexact Hx
  isplitl [Ho0]; · iexact Ho0
  isplitl [Hb]; · iexact Hb
  isplitl [H0]; · iexact H0
  isplitl [H1]; · iexact H1
  isplitl [HO]; · iexact HO
  iintro ⟨Hx, Ho0, Hb, H0, H1, HO⟩
  iapply (move_wp d L cc0_scoped2 cc0_scoped3 _ _ (5 * tn L + 1) (off_band L 1) O W q X f _ _)
  isplitr; · iexact Hmw
  isplitl [Hx]; · iexact Hx
  isplitl [Ho1]; · iexact Ho1
  isplitl [Hb]; · iexact Hb
  isplitl [H2]; · iexact H2
  isplitl [H3]; · iexact H3
  isplitl [HO]; · iexact HO
  iintro ⟨Hx, Ho1, Hb, H2, H3, HO⟩
  iapply (move_wp d L cc0_scoped4 cc0_scoped5 _ _ (5 * tn L + 2) (off_band L 2) O W q X f _ _)
  isplitr; · iexact Hmw
  isplitl [Hx]; · iexact Hx
  isplitl [Ho2]; · iexact Ho2
  isplitl [Hb]; · iexact Hb
  isplitl [H4]; · iexact H4
  isplitl [H5]; · iexact H5
  isplitl [HO]; · iexact HO
  iintro ⟨Hx, Ho2, Hb, H4, H5, HO⟩
  iapply (move_wp d L cc0_scoped6 cc0_scoped7 _ _ (5 * tn L + 3) (off_band L 3) O W q X f _ _)
  isplitr; · iexact Hmw
  isplitl [Hx]; · iexact Hx
  isplitl [Ho3]; · iexact Ho3
  isplitl [Hb]; · iexact Hb
  isplitl [H6]; · iexact H6
  isplitl [H7]; · iexact H7
  isplitl [HO]; · iexact HO
  iintro ⟨Hx, Ho3, Hb, H6, H7, HO⟩
  iapply (move_wp d L cc0_scoped8 cc0_scoped9 _ _ (5 * tn L + 4) (off_band L 4) O W q X f _ _)
  isplitr; · iexact Hmw
  isplitl [Hx]; · iexact Hx
  isplitl [Ho4]; · iexact Ho4
  isplitl [Hb]; · iexact Hb
  isplitl [H8]; · iexact H8
  isplitl [H9]; · iexact H9
  isplitl [HO]; · iexact HO
  iintro ⟨Hx, Ho4, Hb, H8, H9, HO⟩
  iapply (fetch_wp d L O W q U I _ _)
  isplitr; · iexact Hmw
  isplitl [Hu]; · iexact Hu
  isplitl [Hi]; · iexact Hi
  isplitl [Hub]; · iexact Hub
  isplitl [Hib]; · iexact Hib
  isplitl [H10]; · iexact H10
  isplitl [H11]; · iexact H11
  isplitl [HO]; · iexact HO
  iintro ⟨Hu, Hi, Hub, Hib, H10, H11, HO⟩
  ihave Ho := (Entails.of_eq (oPts_eq d L X).symm) $$ [Ho0 Ho1 Ho2 Ho3 Ho4]
  · isplitl [Ho0]; · iexact Ho0
    isplitl [Ho1]; · iexact Ho1
    isplitl [Ho2]; · iexact Ho2
    isplitl [Ho3]; · iexact Ho3
    iexact Ho4
  iapply (Entails.of_eq (wp_bind Idealize.ShloMosaic.frame (wpE (defs₀ (F := F)) 𝒱₀ (V d (cV L) (jV L)) none) Set.univ _ _ _).symm)
  iapply (branch_wp d L cc0_scoped12 cc0_scoped13 _ _ (by rfl) 0 (by omega) ![0] inb_S64_S16_0 rfl O W _ U _ _)
  isplitr; · iexact Hmw
  isplitl [Ho]; · iexact Ho
  isplitl [Hub]; · iexact Hub
  isplitl [Hrb]; · iexact Hrb
  isplitl [H12]; · iexact H12
  isplitl [H13]; · iexact H13
  isplitl [HO]; · iexact HO
  iintro ⟨Ho, Hub, Hrb, H12, H13, HO⟩
  iapply (le_wp_ret Idealize.ShloMosaic.frame (wpE (defs₀ (F := F)) 𝒱₀ (V d (cV L) (jV L)) none) Set.univ _ _)
  iapply (branch_wp d L cc0_scoped14 cc0_scoped15 _ _ (by rfl) 16 (by omega) ![16] inb_S64_S16_16 rfl O W _ U _ _)
  isplitr; · iexact Hmw
  isplitl [Ho]; · iexact Ho
  isplitl [Hub]; · iexact Hub
  isplitl [Hrb]; · iexact Hrb
  isplitl [H14]; · iexact H14
  isplitl [H15]; · iexact H15
  isplitl [HO]; · iexact HO
  iintro ⟨Ho, Hub, Hrb, H14, H15, HO⟩
  iapply (branch_wp d L cc0_scoped16 cc0_scoped17 _ _ (by rfl) 32 (by omega) ![32] inb_S64_S16_32 rfl O W _ U _ _)
  isplitr; · iexact Hmw
  isplitl [Ho]; · iexact Ho
  isplitl [Hub]; · iexact Hub
  isplitl [Hrb]; · iexact Hrb
  isplitl [H16]; · iexact H16
  isplitl [H17]; · iexact H17
  isplitl [HO]; · iexact HO
  iintro ⟨Ho, Hub, Hrb, H16, H17, HO⟩
  iapply (branch_wp d L cc0_scoped18 cc0_scoped19 _ _ (by rfl) 48 (by omega) ![48] inb_S64_S16_48 rfl O W _ U _ _)
  isplitr; · iexact Hmw
  isplitl [Ho]; · iexact Ho
  isplitl [Hub]; · iexact Hub
  isplitl [Hrb]; · iexact Hrb
  isplitl [H18]; · iexact H18
  isplitl [H19]; · iexact H19
  isplitl [HO]; · iexact HO
  iintro ⟨Ho, Hub, Hrb, H18, H19, HO⟩
  iapply (le_wp_ret Idealize.ShloMosaic.frame (wpE (defs₀ (F := F)) 𝒱₀ (V d (cV L) (jV L)) none) Set.univ _ _)
  isplitl [Hx Hu Hi Ho]
  · isplitl [Hx]; · iexact Hx
    isplitl [Hu]; · iexact Hu
    isplitl [Hi]; · iexact Hi
    iapply (Entails.of_eq (congrArg (oPts d L) (outVal_eq X U I)))
    iexact Ho
  isplitl [Hb Hub Hib Hrb]
  · isplitl [Hb]; · iexact Hb
    isplitl [Hub]; · iexists _; iexact Hub
    isplitl [Hib]; · iexact Hib
    iexact Hrb
  isplitr [HO]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  iexact HO

end Cert.Proof.TileIdeal

end
-- ==== Proof.LaunchIdeal.lean ====
/-
  The whole program, for any reading of the floats: what the call's handshakes carry, how the output falls into the 32 tiles'
  bands, the host operations around the call, and the run of all threads (`run_main`) with every array's value at the end.
-/
module

public import proofs.«01_k».proof.Proof.TileRunIdeal

@[expose] public section

noncomputable section

namespace Cert.Proof.TileIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_sub_split seq seqK after after_of_writes_sub forall_writes_sub_of_map launchContents tcRefs wp_seq nullary_bufs_sub unary_bufs_sub ternary_bufs_sub reshape_bufs_sub)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A tile's own semaphores and scratch buffers -/

section Own

variable (d : Dev nD) (L : grid0.Coords)

/-- The kernel's twenty semaphores. -/
def semLocs : Finset (SemLoc sig) := {.dma cc0_scoped0.sem, .dma cc0_scoped1.sem, .dma cc0_scoped2.sem, .dma cc0_scoped3.sem, .dma cc0_scoped4.sem, .dma cc0_scoped5.sem, .dma cc0_scoped6.sem, .dma cc0_scoped7.sem, .dma cc0_scoped8.sem, .dma cc0_scoped9.sem, .dma cc0_scoped10.sem, .dma cc0_scoped11.sem, .dma cc0_scoped12.sem, .dma cc0_scoped13.sem, .dma cc0_scoped14.sem, .dma cc0_scoped15.sem, .dma cc0_scoped16.sem, .dma cc0_scoped17.sem, .dma cc0_scoped18.sem, .dma cc0_scoped19.sem}

/-- All twenty are a vector subcore's own for the call. -/
theorem semLocs_scoped : ∀ s ∈ semLocs, s.isScoped .scVector = true := by decide

/-- A tile's semaphores at rest: the kernel's twenty and the others. -/
theorem ownSems_split : (ownSems0 (V d (cV L) (jV L)) : sProp 𝕄)
    = iprop((sem0 (F := F) d L cc0_scoped0 ∗ sem0 (F := F) d L cc0_scoped1 ∗ sem0 (F := F) d L cc0_scoped2 ∗ sem0 (F := F) d L cc0_scoped3 ∗ sem0 (F := F) d L cc0_scoped4 ∗ sem0 (F := F) d L cc0_scoped5 ∗ sem0 (F := F) d L cc0_scoped6 ∗ sem0 (F := F) d L cc0_scoped7 ∗ sem0 (F := F) d L cc0_scoped8 ∗ sem0 (F := F) d L cc0_scoped9 ∗ sem0 (F := F) d L cc0_scoped10 ∗ sem0 (F := F) d L cc0_scoped11 ∗ sem0 (F := F) d L cc0_scoped12 ∗ sem0 (F := F) d L cc0_scoped13 ∗ sem0 (F := F) d L cc0_scoped14 ∗ sem0 (F := F) d L cc0_scoped15 ∗ sem0 (F := F) d L cc0_scoped16 ∗ sem0 (F := F) d L cc0_scoped17 ∗ sem0 (F := F) d L cc0_scoped18 ∗ sem0 (F := F) d L cc0_scoped19)
        ∗ bigSep (ownCells (V d (cV L) (jV L)) \ semLocs.map ⟨fun s => ((V d (cV L) (jV L), s) : GSem nD τ sig), fun _ _ e => (Prod.mk.inj e).2⟩) fun g => semVal g 0) := by
  have hsub : semLocs.map ⟨fun s => ((V d (cV L) (jV L), s) : GSem nD τ sig), fun _ _ e => (Prod.mk.inj e).2⟩ ⊆ ownCells (V d (cV L) (jV L)) := by
    intro g hg
    obtain ⟨s, hs, rfl⟩ := Finset.mem_map.mp hg
    exact mem_ownCells.mpr ⟨rfl, semLocs_scoped s hs⟩
  unfold SparseCore.Cfg.ownSems0
  refine (bigSep_sdiff_split hsub).trans ?_
  rw [bigSep_map]
  congr 1
  unfold semLocs
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [bigSep_singleton]
  rfl

/-- The kernel's four scratch buffers. -/
def bufRefs : Finset (Ref sig .scVector) := {cc0_scratch0, cc0_scratch1, cc0_scratch2, cc0_scratch3}

/-- A conjunction over the four scratch buffers, written out. -/
theorem bufRefs_sum (Φ : Ref sig .scVector → sProp 𝕄) :
    bigSep bufRefs Φ = iprop(Φ cc0_scratch0 ∗ Φ cc0_scratch1 ∗ Φ cc0_scratch2 ∗ Φ cc0_scratch3) := by
  unfold bufRefs
  rw [SparseCore.bigSep_insert' (by decide), SparseCore.bigSep_insert' (by decide), SparseCore.bigSep_insert' (by decide), bigSep_singleton]

/-- The four scratch buffers are the tile's own. -/
theorem bufRefs_own : ∀ b ∈ bufRefs, ((Proc.scVector (cV L) (jV L)).devRef b : DevRef τ sig).owner = .proc (Proc.scVector (cV L) (jV L)) := by
  intro b hb
  simp only [bufRefs, Finset.mem_insert, Finset.mem_singleton] at hb
  rcases hb with rfl | rfl | rfl | rfl <;> rfl

/-- A tile's buffers: the kernel's four and the others, each whole at some contents. -/
theorem ownBufs_split : (ownBufs (V d (cV L) (jV L)) : sProp 𝕄)
    = iprop(((∃ f : S50000.Idx → F .f32, bW.view.loc (V d (cV L) (jV L)) ↦{fullShare} f)
          ∗ (∃ f : S64.Idx → F .f32, uB.view.loc (V d (cV L) (jV L)) ↦{fullShare} f)
          ∗ (∃ f : S16.Idx → BitVec 32, iB.view.loc (V d (cV L) (jV L)) ↦{fullShare} f)
          ∗ (∃ f : S16.Idx → F .f32, rB.view.loc (V d (cV L) (jV L)) ↦{fullShare} f))
        ∗ bigSep (ownRefs (τ := τ) (.scVector (cV L) (jV L)) \ bufRefs.map ⟨(Proc.scVector (cV L) (jV L)).devRef (sig := sig), Proc.devRef_injective _⟩)
            fun b => iprop(∃ f, ((d, b) : Loc nD τ sig) ↦{fullShare} f)) := by
  have hsub : bufRefs.map ⟨(Proc.scVector (cV L) (jV L)).devRef (sig := sig), Proc.devRef_injective _⟩ ⊆ ownRefs (τ := τ) (.scVector (cV L) (jV L)) := by
    intro b hb
    obtain ⟨r, hr, rfl⟩ := Finset.mem_map.mp hb
    exact SparseCore.Cfg.mem_ownRefs_of_owner (bufRefs_own L r hr)
  unfold SparseCore.Cfg.ownBufs
  refine (bigSep_sdiff_split hsub).trans ?_
  rw [bigSep_map]
  congr 1
  exact bufRefs_sum _

end Own

/-! ## The host operations before the call and after it -/

/-- The operations that lay out the call's operands. -/
def ops1 : List (HloOp τ sig (Elt F)) :=
  [ StableHlo.reshape main_arg0 main_v0 (rfl : (.f32 : EltTy) = .f32) shapeCasts_S1000000x8_S8000000,
    StableHlo.nullary main_cst (constant S_ .f32 0x00000000#32),
    StableHlo.unary main_cst main_v1 (broadcastInDim S4x16 ![] bcast_S_S4x16 : (⟨S_, .f32⟩ : BufTy).Contents (Elt F) → (⟨S4x16, .f32⟩ : BufTy).Contents (Elt F)),
    StableHlo.nullary main_c (constantI S_ 32 0#32),
    StableHlo.unary main_c main_v2 (broadcastInDim S1 ![] bcast_S_S1 : (⟨S_, .i32⟩ : BufTy).Contents (Elt F) → (⟨S1, .i32⟩ : BufTy).Contents (Elt F)),
    StableHlo.ternary main_v1 main_v2 main_arg1 main_v3 ((fun x i u => Host.scatter scatter_S4x16_S1_S4x8_01_n_1_0 (fun _ b => b) x i u) : (⟨S4x16, .f32⟩ : BufTy).Contents (Elt F) → (⟨S1, .i32⟩ : BufTy).Contents (Elt F) → (⟨S4x8, .f32⟩ : BufTy).Contents (Elt F) → (⟨S4x16, .f32⟩ : BufTy).Contents (Elt F)),
    StableHlo.reshape main_v3 main_v4 (rfl : (.f32 : EltTy) = .f32) shapeCasts_S4x16_S64,
    StableHlo.nullary main_c_0 (constantI S_ 32 0#32),
    StableHlo.unary main_c_0 main_v5 (broadcastInDim S16 ![] bcast_S_S16 : (⟨S_, .i32⟩ : BufTy).Contents (Elt F) → (⟨S16, .i32⟩ : BufTy).Contents (Elt F)),
    StableHlo.nullary main_c_1 (constantI S_ 32 0#32),
    StableHlo.unary main_c_1 main_v6 (broadcastInDim S1 ![] bcast_S_S1 : (⟨S_, .i32⟩ : BufTy).Contents (Elt F) → (⟨S1, .i32⟩ : BufTy).Contents (Elt F)),
    StableHlo.ternary main_v5 main_v6 main_arg2 main_v7 ((fun x i u => Host.scatter scatter_S16_S1_S4_0_n_0_0 (fun _ b => b) x i u) : (⟨S16, .i32⟩ : BufTy).Contents (Elt F) → (⟨S1, .i32⟩ : BufTy).Contents (Elt F) → (⟨S4, .i32⟩ : BufTy).Contents (Elt F) → (⟨S16, .i32⟩ : BufTy).Contents (Elt F)) ]

/-- The operation after the call. -/
def opOut : HloOp τ sig (Elt F) := StableHlo.reshape main_v8 main_v9 (rfl : (.f32 : EltTy) = .f32) shapeCasts_S8000000_S1000000x8

/-- The program is those operations around the call. -/
theorem main_shape (d : Dev nD) : main (F := F) d = seqK ops1 (sc.run d 0 >>= fun _ => seqK [opOut] (pure ⟨⟩)) := rfl

variable (m : (ℓ : Loc nD τ sig) → Buf (Elt F) ℓ) (ρ : Dev nD → PrngReg)

/-- The flat table, among the arrays of the device. -/
abbrev xR : DevRef τ sig := Proc.devRef .tc main_v0
/-- The padded update rows. -/
abbrev uR : DevRef τ sig := Proc.devRef .tc main_v4
/-- The padded row numbers. -/
abbrev iR : DevRef τ sig := Proc.devRef .tc main_v7
/-- The flat output. -/
abbrev oR : DevRef τ sig := Proc.devRef .tc main_v8

/-- The arrays when the call begins. -/
def V1 (d : Dev nD) : Valuation τ sig (Elt F) := after ops1 (launchContents m d)

/-- The call's operands: the table, the updates, the row numbers, and what the output holds before. -/
abbrev Xv (d : Dev nD) : S8000000.Idx → F .f32 := V1 m d xR
/-- The update rows that the call is given. -/
abbrev Uv (d : Dev nD) : S64.Idx → F .f32 := V1 m d uR
/-- The row numbers that the call is given. -/
abbrev Iv (d : Dev nD) : S16.Idx → BitVec 32 := V1 m d iR
/-- What the output holds when the call begins. -/
abbrev Zv (d : Dev nD) : S8000000.Idx → F .f32 := V1 m d oR

/-- The arrays when the call is over, and at the end. -/
def V2 (d : Dev nD) : Valuation τ sig (Elt F) := Function.update (V1 m d) oR (outVal (Xv m d) (Uv m d) (Iv m d))
/-- The arrays at the end. -/
def VF (d : Dev nD) : Valuation τ sig (Elt F) := after [opOut] (V2 m d)

/-! ## What the call carries -/

/-- The flat table of device `d`. -/
abbrev xL (d : Dev nD) : Loc nD τ sig := (d, xR)
/-- The padded update rows of device `d`. -/
abbrev uL (d : Dev nD) : Loc nD τ sig := (d, uR)
/-- The padded row numbers of device `d`. -/
abbrev iL (d : Dev nD) : Loc nD τ sig := (d, iR)
/-- The flat output of device `d`. -/
abbrev oL (d : Dev nD) : Loc nD τ sig := (d, oR)

/-- Tile `k`'s part: a read share of each operand, and its words of the output at `f`. -/
def part (d : Dev nD) (f : S8000000.Idx → F .f32) (k : ℕ) : sProp 𝕄 :=
  iprop((xL d ↦{Transfers.shareTokN fullShare k} Xv m d) ∗ (uL d ↦{Transfers.shareTokN fullShare k} Uv m d)
    ∗ (iL d ↦{Transfers.shareTokN fullShare k} Iv m d) ∗ (oL d ↦[band 250000 k]{fullShare} f))

/-- That can be carried by a handshake. -/
instance part_storable (d : Dev nD) (f : S8000000.Idx → F .f32) (k : ℕ) : BI.Storable (upEmb : UEmb _ 𝕄) (part m d f k) := by
  unfold part; infer_instance

/-- What the output holds after the call. -/
abbrev Ov (d : Dev nD) : S8000000.Idx → F .f32 := outVal (Xv m d) (Uv m d) (Iv m d)

/-- The tile at SparseCore `c`, subcore `s`. -/
def tileAt (c : Fin (grid0.bound 0)) (s : Fin (grid0.bound 1)) : grid0.Coords :=
  fun | 0 => c | 1 => s | ⟨_ + 2, h⟩ => absurd h (Nat.not_lt.2 (Nat.le_add_left _ _))

/-- A tile's place among the thirty-two. -/
def place (c : Fin 2) (s : Fin 16) : ℕ := 2 * s.val + c.val

/-- What the handshakes carry: to each tile its part of the call, the output as it was; back from it the same part, the output at its final value. -/
def P : (K (F := F)).Pay (nD := nD) (Val := Elt F) (Name := ℕ) (U := UU) where
  st := fun q d c => match q with | 0 => bigSep (Finset.univ : Finset (Fin 16)) fun s => part m d (Zv m d) (place c s)
  dn := fun q d c => match q with | 0 => bigSep (Finset.univ : Finset (Fin 16)) fun s => part m d (Ov m d) (place c s)
  go := fun q d c s => match q with | 0 => part m d (Zv m d) (place c s)
  td := fun q d c s => match q with | 0 => part m d (Ov m d) (place c s)
  x := fun _ _ => iprop(emp)

/-- All of it can be carried. -/
instance P_storable : (P (F := F) m).IsStorable where
  st q d c := match q with
    | 0 => (inferInstance : BI.Storable (upEmb : UEmb _ 𝕄) (bigSep (Finset.univ : Finset (Fin 16)) fun s => part m d (Zv m d) (place c s)))
  dn q d c := match q with
    | 0 => (inferInstance : BI.Storable (upEmb : UEmb _ 𝕄) (bigSep (Finset.univ : Finset (Fin 16)) fun s => part m d (Ov m d) (place c s)))
  go q d c s := match q with
    | 0 => (inferInstance : BI.Storable (upEmb : UEmb _ 𝕄) (part m d (Zv m d) (place c s)))
  td q d c s := match q with
    | 0 => (inferInstance : BI.Storable (upEmb : UEmb _ 𝕄) (part m d (Ov m d) (place c s)))

/-- What the launch asks of the configuration. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## A tile's task -/

set_option maxHeartbeats 2000000 in
/-- The task of a tile, from its part of the operands: its words of the output end at the launch's value. -/
theorem task (d : Dev nD) (L : grid0.Coords) (O : CellTallies nD τ sig (HIx 1)) (W : Waits sig (HIx 1)) (hO : ∀ g, O g none = 0) :
    iprop(levAts (K (F := F)).L (K (F := F)).lev ∗ emp ∗ part m d (Zv m d) (tn L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__body L xW (Memref.isWhole_whole _) uW (Memref.isWhole_whole _) iW (Memref.isWhole_whole _) oW (Memref.isWhole_whole _)
            bW (Memref.isWhole_whole _) uB (Memref.isWhole_whole _) iB (Memref.isWhole_whole _) rB (Memref.isWhole_whole _)
            cc0_scoped0 cc0_scoped1 cc0_scoped2 cc0_scoped3 cc0_scoped4 cc0_scoped5 cc0_scoped6 cc0_scoped7 cc0_scoped8 cc0_scoped9
            cc0_scoped10 cc0_scoped11 cc0_scoped12 cc0_scoped13 cc0_scoped14 cc0_scoped15 cc0_scoped16 cc0_scoped17 cc0_scoped18 cc0_scoped19)
          fun _ => iprop(part m d (Ov m d) (tn L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V facts d (cV L) (jV L), SparseCore.Cfg.scopedSems0_V (Val := Elt F) d (cV L) (jV L), ownSems_split, ownBufs_split]
  unfold part
  iintro ⟨#Hlv, -, ⟨Hx, Hu, Hi, Ho⟩, ⟨⟨Hb, Hub, Hib, Hrb⟩, Hbufs⟩, ⟨Hs, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (wp_wand_r Idealize.ShloMosaic.frame (wpE (defs₀ (F := F)) 𝒱₀ (V d (cV L) (jV L)) none) Set.univ)
  isplitl [Hmw Hx Hu Hi Ho Hb Hub Hib Hrb Hs HO]
  · iapply (tile_run d L O W (Transfers.shareTokN fullShare (tn L)) (Xv m d) (Zv m d) (Uv m d) (Iv m d))
    isplitl [Hmw]; · iexact Hmw
    isplitl [Hx]; · iexact Hx
    isplitl [Hu]; · iexact Hu
    isplitl [Hi]; · iexact Hi
    isplitl [Ho]; · iexact Ho
    isplitl [Hb]; · iexact Hb
    isplitl [Hub]; · iexact Hub
    isplitl [Hib]; · iexact Hib
    isplitl [Hrb]; · iexact Hrb
    isplitl [Hs]; · iexact Hs
    iexact HO
  iintro %_ ⟨⟨Hx, Hu, Hi, Ho⟩, Hb, Hs, %W', %hW', HO⟩
  isplitl [Hx Hu Hi Ho]
  · isplitl [Hx]; · iexact Hx
    isplitl [Hu]; · iexact Hu
    isplitl [Hi]; · iexact Hi
    iexact Ho
  isplitl [Hb Hbufs]; · isplitl [Hb] <;> iassumption
  isplitl [Hs Hsems]; · isplitl [Hs] <;> iassumption
  iexists W'; isplitr
  · ipureintro; exact fun p hp => (hW' p hp).imp_right Or.inl
  iexact HO

/-- What a tile's label runs is the kernel's body at the tile's coordinates. -/
theorem defs_tile (c : Fin τ.nSC) (s : Fin τ.nSub) :
    defs₀ (F := F) (.scVector c s) 0 ()
      = SparseCore.onTile hcore0 hsub0 (fun c s => cc0__body (tileAt c s)
          xW (Memref.isWhole_whole _) uW (Memref.isWhole_whole _) iW (Memref.isWhole_whole _) oW (Memref.isWhole_whole _)
            bW (Memref.isWhole_whole _) uB (Memref.isWhole_whole _) iB (Memref.isWhole_whole _) rB (Memref.isWhole_whole _)
            cc0_scoped0 cc0_scoped1 cc0_scoped2 cc0_scoped3 cc0_scoped4 cc0_scoped5 cc0_scoped6 cc0_scoped7 cc0_scoped8 cc0_scoped9
            cc0_scoped10 cc0_scoped11 cc0_scoped12 cc0_scoped13 cc0_scoped14 cc0_scoped15 cc0_scoped16 cc0_scoped17 cc0_scoped18 cc0_scoped19) ⟨⟩ c s := rfl

set_option maxRecDepth 16384 in
/-- Every tile does its part. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs_tile]; simp only [SparseCore.onTile, hci, and_self, ↓reduceDIte]
  exact task m d (tileAt ⟨_, hci.1⟩ ⟨_, hci.2⟩) O W hO

/-- What a SparseCore is given is what its sixteen tiles are given, and likewise what comes back. -/
theorem vecSplit : (K (F := F)).VecSplit' (P m) 0 := by
  intro d c
  show (bigSep (Finset.univ : Finset (Fin 16)) fun s => part m d (Zv m d) (place c s)) ⊢ |={Set.univ}=> iprop(
      (bigSep (Finset.univ : Finset (Fin 16)) fun s => part m d (Zv m d) (place c s))
      ∗ ((bigSep (Finset.univ : Finset (Fin 16)) fun s => part m d (Ov m d) (place c s))
          -∗ (bigSep (Finset.univ : Finset (Fin 16)) fun s => part m d (Ov m d) (place c s))))
  iintro H; imodintro
  isplitl [H]; · iexact H
  iintro H; iexact H

/-! ## The operands dealt among the tiles, and joined again -/

/-- Over the SparseCores and their subcores is over the thirty-two places. -/
theorem bigSep_places (Φ : ℕ → sProp 𝕄) :
    (bigSep (Finset.univ : Finset (Fin 2)) fun c => bigSep (Finset.univ : Finset (Fin 16)) fun s => Φ (place c s))
      = bigSep (Finset.univ : Finset (Fin 32)) fun k => Φ k.val := by
  rw [← bigSep_univ_prod (fun p : Fin 2 × Fin 16 => Φ (place p.1 p.2)),
    bigSep_univ_equiv ((Equiv.prodComm (Fin 2) (Fin 16)).trans (finProdFinEquiv (m := 16) (n := 2))) (fun k : Fin 32 => Φ k.val)]
  refine bigSep_congr fun p _ => congrArg Φ ?_
  show 2 * p.2.val + p.1.val = p.1.val + 2 * p.2.val
  omega

/-- The 32 bands are the whole output. -/
theorem bands_cover : (Finset.univ : Finset (Fin 32)).biUnion (fun k => band 250000 k.val) = Finset.univ := by
  ext p
  have h : (p 0).val < 8000000 := (p 0).isLt
  simp only [Finset.mem_biUnion, Finset.mem_univ, true_and, mem_band, iff_true]
  exact ⟨⟨(p 0).val / 250000, by omega⟩, rfl⟩

/-- The whole output is the thirty-two tiles' words of it. -/
theorem out_bands (d : Dev nD) (f : S8000000.Idx → F .f32) :
    (oL d ↦{fullShare} f : sProp 𝕄) = bigSep (Finset.univ : Finset (Fin 32)) fun k => oL d ↦[band 250000 k.val]{fullShare} f := by
  rw [← pointsTo_biUnion Finset.univ (ℓ := oL d) (fun k : Fin 32 => band 250000 k.val)
    (fun t _ t' _ h => band_disjoint 250000 (fun e => h (Fin.ext e)))]
  exact congrArg (fun S => (oL d ↦[S]{fullShare} f : sProp 𝕄)) bands_cover.symm

/-- What is left of the three read arrays while the tiles hold their shares. -/
abbrev kept (d : Dev nD) : sProp 𝕄 :=
  iprop((xL d ↦{Transfers.shareDrop fullShare 32} Xv m d) ∗ (uL d ↦{Transfers.shareDrop fullShare 32} Uv m d) ∗ (iL d ↦{Transfers.shareDrop fullShare 32} Iv m d))

/-- The four arrays of the call, the output at `f`. -/
abbrev whole4 (d : Dev nD) (f : S8000000.Idx → F .f32) : sProp 𝕄 :=
  iprop((xL d ↦{fullShare} Xv m d) ∗ (uL d ↦{fullShare} Uv m d) ∗ (iL d ↦{fullShare} Iv m d) ∗ (oL d ↦{fullShare} f))

/-- The 32 parts together are the read shares of the three operands and the whole output. -/
theorem parts_eq (d : Dev nD) (f : S8000000.Idx → F .f32) :
    (bigSep (Finset.univ : Finset (Fin 2)) fun c => bigSep (Finset.univ : Finset (Fin 16)) fun s => part m d f (place c s))
      = iprop((bigSep Finset.univ fun k : Fin 32 => xL d ↦{Transfers.shareTok fullShare 32 k} Xv m d)
          ∗ (bigSep Finset.univ fun k : Fin 32 => uL d ↦{Transfers.shareTok fullShare 32 k} Uv m d)
          ∗ (bigSep Finset.univ fun k : Fin 32 => iL d ↦{Transfers.shareTok fullShare 32 k} Iv m d)
          ∗ (oL d ↦{fullShare} f)) := by
  rw [bigSep_places (fun k => part m d f k), out_bands]
  unfold part
  rw [bigSep_sep', bigSep_sep', bigSep_sep']

/-- The four arrays fall into what is kept and the parts of the two SparseCores. -/
theorem deal (d : Dev nD) (f : S8000000.Idx → F .f32) :
    whole4 m d f ⊢ iprop(kept m d
      ∗ bigSep (Finset.univ : Finset (Fin 2)) fun c => bigSep (Finset.univ : Finset (Fin 16)) fun s => part m d f (place c s)) := by
  rw [parts_eq]
  iintro ⟨Hx, Hu, Hi, Ho⟩
  ihave Hx := (Transfers.pointsTo_toks_split fullShare 32) $$ Hx
  ihave Hu := (Transfers.pointsTo_toks_split fullShare 32) $$ Hu
  ihave Hi := (Transfers.pointsTo_toks_split fullShare 32) $$ Hi
  icases Hx with ⟨Hx, Hx'⟩
  icases Hu with ⟨Hu, Hu'⟩
  icases Hi with ⟨Hi, Hi'⟩
  isplitl [Hx Hu Hi]
  · isplitl [Hx]; · iexact Hx
    isplitl [Hu] <;> iassumption
  isplitl [Hx']; · iexact Hx'
  isplitl [Hu']; · iexact Hu'
  isplitl [Hi'] <;> iassumption

/-- The same backwards. -/
theorem undeal (d : Dev nD) (f : S8000000.Idx → F .f32) :
    iprop(kept m d
      ∗ bigSep (Finset.univ : Finset (Fin 2)) fun c => bigSep (Finset.univ : Finset (Fin 16)) fun s => part m d f (place c s)) ⊢ whole4 m d f := by
  rw [parts_eq]
  iintro ⟨⟨Hx, Hu, Hi⟩, Hx', Hu', Hi', Ho⟩
  isplitl [Hx Hx']
  · iapply (Transfers.pointsTo_toks_join fullShare 32); isplitl [Hx] <;> iassumption
  isplitl [Hu Hu']
  · iapply (Transfers.pointsTo_toks_join fullShare 32); isplitl [Hu] <;> iassumption
  isplitl [Hi Hi']
  · iapply (Transfers.pointsTo_toks_join fullShare 32); isplitl [Hi] <;> iassumption
  iexact Ho

/-! ## The launch's ghost state -/

/-- The ghost state at the start. -/
def u₀ : UU := (initOf (K (F := F)).hsCells (K (F := F)).hsToks, 1)

/-- Nothing, any number of times, is nothing. -/
theorem nothing {J : Type} (s : Finset J) : (bigSep s fun _ => iprop(emp)) = (iprop(emp) : sProp 𝕄) := bigSep_emp_const s

/-- The ghost state at the start is the handshakes' and nothing else. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), nothing]
  iempintro

/-! ## The program on the TensorCore -/

/-- All the arrays of the device. -/
abbrev SS : Finset (DevRef τ sig) := tcRefs τ sig

/-- The arrays at the start, as the proof of the host operations holds them. -/
theorem launch_held (d : Dev nD) : (unscopedBufs d (fun b => m ((SparseCore.T d).loc b)) : sProp 𝕄) = held (SparseCore.T d) SS (launchContents m d) := by
  unfold unscopedBufs held SS tcRefs
  rw [show (Finset.univ.filter fun b : Ref sig .tc => ¬ b.isScoped) = Finset.univ by decide, bigSep_map]
  rfl

/-- The call's four arrays among the others. -/
def four : Finset (Ref sig .tc) := {main_v0, main_v4, main_v7, main_v8}
/-- The four arrays of the call, among them. -/
abbrev callSet : Finset (DevRef τ sig) := four.map ⟨Proc.devRef (sig := sig) (.tc : Proc τ), Proc.devRef_injective _⟩

/-- They are arrays of the device. -/
theorem callSet_sub : callSet ⊆ SS := Finset.map_subset_map.mpr (Finset.subset_univ _)

/-- The four arrays, written out. -/
theorem held_four (d : Dev nD) (W : Valuation τ sig (Elt F)) :
    (held (SparseCore.T d) callSet W : sProp 𝕄) = iprop((xL d ↦{fullShare} W xR) ∗ (uL d ↦{fullShare} W uR) ∗ (iL d ↦{fullShare} W iR) ∗ (oL d ↦{fullShare} W oR)) := by
  unfold held
  rw [bigSep_map]
  unfold four
  rw [SparseCore.bigSep_insert' (by decide), SparseCore.bigSep_insert' (by decide), SparseCore.bigSep_insert' (by decide), bigSep_singleton]
  rfl

/-- When the call is over the output is at its final value. -/
theorem V2_o (d : Dev nD) : V2 m d oR = Ov m d := Function.update_self _ _ _
/-- The call changes nothing else. -/
theorem V2_ne (d : Dev nD) {b : DevRef τ sig} (h : b ≠ oR) : V2 m d b = V1 m d b := Function.update_of_ne h _ _

/-- The arrays when the call is over: its four and the rest as before. -/
theorem held_V2 (d : Dev nD) : (held (SparseCore.T d) SS (V2 m d) : sProp 𝕄) = iprop(whole4 m d (Ov m d) ∗ held (SparseCore.T d) (SS \ callSet) (V1 m d)) := by
  rw [held_sub_split (SparseCore.T d) callSet_sub, held_four, V2_o, V2_ne m d (show xR ≠ oR by decide), V2_ne m d (show uR ≠ oR by decide), V2_ne m d (show iR ≠ oR by decide),
    StableHlo.held_congr (c := T d) (S := SS \ callSet) (V := V2 m d) (V' := V1 m d)]
  intro b hb
  refine V2_ne m d fun e => (Finset.mem_sdiff.mp hb).2 ?_
  rw [e]
  exact Finset.mem_map_of_mem _ (by decide)

/-- The arrays when the call begins: its four and the rest. -/
theorem held_V1 (d : Dev nD) : (held (SparseCore.T d) SS (V1 m d) : sProp 𝕄) = iprop(whole4 m d (Zv m d) ∗ held (SparseCore.T d) (SS \ callSet) (V1 m d)) := by
  rw [held_sub_split (SparseCore.T d) callSet_sub, held_four]

/-- The operations before the call touch arrays of the device only. -/
theorem ops1_bufs : ∀ op ∈ ops1 (F := F), op.bufs ⊆ SS :=
  List.forall_iff_forall_mem.1 ⟨reshape_bufs_sub _ _ _ _ _ _, nullary_bufs_sub _ _ _, unary_bufs_sub _ _ _ _ _, nullary_bufs_sub _ _ _,
    unary_bufs_sub _ _ _ _ _, ternary_bufs_sub _ _ _ _ _ _ _ _ _, reshape_bufs_sub _ _ _ _ _ _, nullary_bufs_sub _ _ _,
    unary_bufs_sub _ _ _ _ _, nullary_bufs_sub _ _ _, unary_bufs_sub _ _ _ _ _, ternary_bufs_sub _ _ _ _ _ _ _ _ _⟩
/-- They allocate nothing. -/
theorem ops1_fresh : ∀ op ∈ ops1 (F := F), op.fresh = ∅ :=
  List.forall_iff_forall_mem.1 (StableHlo.forall_fresh_of_map rfl)

/-- What the program leaves: every array at its end value. -/
abbrev FIN (d : Dev nD) : sProp 𝕄 := held (SparseCore.T d) SS (VF m d)

/-- The host program: the operations before the call, the call, the operation after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [launch_held, main_shape, ← StableHlo.seq_bind_seqK, ← StableHlo.seq_bind_seqK]
  iintro ⟨#Hctx, Hst, ⟨Hb, Hh, Hts, -⟩, -⟩
  iapply (wp_seq 𝒱 none Set.univ d SS _ ops1 ops1_bufs ops1_fresh (launchContents m d)) $$ [Hb Hh]
  · isplitl [Hb] <;> iassumption
  iintro ⟨Hb, Hh⟩
  ihave Hh := (show held d.tc SS (after ops1 (launchContents m d)) ⊢ iprop(whole4 m d (Zv m d) ∗ held (SparseCore.T d) (SS \ callSet) (V1 m d)) from
    Entails.of_eq (held_V1 m d)) $$ Hh
  icases Hh with ⟨H4, Hr⟩
  ihave H4 := (deal m d (Zv m d)) $$ H4
  icases H4 with ⟨Hk, Hp⟩
  rw [wp_bind]
  iapply ((K (F := F)).wp_run (D (F := F)) 𝒱 (EH := EH) (P := P m) κ d 0) $$ [Hst Hp Hk Hr Hb Hts]
  isplitr; · iexact Hctx
  isplitl [Hst]; · iexact Hst
  isplitl [Hp]; · iexact Hp
  iintro ⟨Hst, Hdn⟩
  ihave H4 := (undeal m d (Ov m d)) $$ [Hk Hdn]
  · isplitl [Hk]; · iexact Hk
    iexact Hdn
  ihave Hh := (Entails.of_eq (held_V2 m d).symm) $$ [H4 Hr]
  · isplitl [H4] <;> iassumption
  iapply (wp_seq 𝒱 none Set.univ d SS _ [opOut] (List.forall_iff_forall_mem.1 (reshape_bufs_sub _ _ _ _ _ _)) (List.forall_iff_forall_mem.1 (StableHlo.forall_fresh_of_map rfl)) (V2 m d)) $$ [Hb Hh]
  · isplitl [Hb] <;> iassumption
  iintro ⟨Hb, Hh⟩
  rw [wp_pure]; imodintro
  isplitl [Hst]; · iexact Hst
  isplitl [Hh]; · iexact Hh
  isplitl [Hb] <;> iassumption

/-- Every array of the final memory is at its end value. -/
def fq (d : Dev nD) (s' : Phys nD τ sig (Elt F)) : Prop := ∀ b : Ref sig .tc, s'.mem.mem ((SparseCore.T d).loc b) = VF m d (Proc.devRef .tc b)

/-- At the end the memory holds what the proof says it holds. -/
theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) SS) $$ [HSI H]
  · isplitl [HSI]; · iexact HSI
    iexact H
  ipureintro
  exact fun b => h _ (StableHlo.devRef_mem_tcRefs b)

/-- What the run ends with: the arrays at their end values, the counters at zero. -/
def QC : PUnit × MemSt nD τ sig (Elt F) → Prop :=
  fun r => (∀ (d : Dev nD) (b : Ref sig .tc), r.2.mem ((SparseCore.T d).loc b) = VF m d (Proc.devRef .tc b)) ∧ r.2.sem = fun _ => 0

/-- Every run ends, without fault, with every array at its end value and every counter at zero. -/
theorem run_main [∀ e, Nonempty (Elt F e)] :
    θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-! ## The arrays at the end -/

/-- The arrays that the operations before the call write. -/
def wr1 : List (Ref sig .tc) := [main_v0, main_cst, main_v1, main_c, main_v2, main_v3, main_v4, main_c_0, main_v5, main_c_1, main_v6, main_v7]

/-- An array that neither the call nor any operation writes ends as it began. -/
theorem VF_kept (d : Dev nD) (b : Ref sig .tc) (h1 : b ∉ wr1) (h2 : b ≠ main_v8) (h3 : b ∉ [main_v9]) :
    VF m d (Proc.devRef .tc b) = m ((SparseCore.T d).loc b) := by
  unfold VF
  rw [after_of_writes_sub [opOut] _ (forall_writes_sub_of_map (W := [main_v9]) rfl) h3,
    V2_ne m d (fun e => h2 (Proc.devRef_injective _ e))]
  unfold V1
  rw [after_of_writes_sub ops1 _ (forall_writes_sub_of_map (W := wr1) rfl) h1]

/-- The program's result at the end is what the call left, as a matrix. -/
theorem VF_out (d : Dev nD) : VF m d (Proc.devRef .tc main_v9) = shapeCast S1000000x8 (Ov m d) shapeCasts_S8000000_S1000000x8 := by
  unfold VF opOut
  after_results
  show shapeCast S1000000x8 (V2 m d oR) shapeCasts_S8000000_S1000000x8 = _
  rw [V2_o]

/-- Every run ends with the three arguments as they were and every counter at zero. -/
theorem run_frame [∀ e, Nonempty (Elt F e)] :
    θ_run (defs (F := F)) (threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c main_arg0).trans (VF_kept m c main_arg0 (by decide) (by decide) (by decide)),
      (h.1 c main_arg1).trans (VF_kept m c main_arg1 (by decide) (by decide) (by decide)),
      (h.1 c main_arg2).trans (VF_kept m c main_arg2 (by decide) (by decide) (by decide))⟩, h.2⟩) (run_main m ρ)

end Cert.Proof.TileIdeal
-- ==== Proof.ValueIdeal.lean ====
/-
  The program's result read at one element: the table's element with each update row added whose row number is the row.
-/
module

public import proofs.«01_k».proof.Proof.LaunchIdeal
public import Idealize.ShloMosaic.Lib.Routing.OpsPair
public import Idealize.ShloMosaic.Lib.Routing.OpsSet
public import Idealize.ShloMosaic.Lib.Pipeline.Value

@[expose] public section

noncomputable section

namespace Cert.Proof.TileIdeal

open Cert.KernelIdeal Cert.KernelIdeal.Gen

open Idealize.ShloMosaic Idealize.ShloMosaic.ValueIdx Idealize.ShloMosaic.Routing
open Idealize.ShloMosaic.StableHlo (launchContents)

variable {F : FTy → Type} [FloatOps F] (m : (ℓ : Loc nD τ sig) → Buf (Elt F) ℓ)

/-! ## The operands of the call, from the arguments -/

/-- The table of the call is the first argument, flat. -/
theorem Xv_eq (d : Dev nD) : Xv m d = shapeCast S8000000 (m (d.tc.loc main_arg0) : S1000000x8.Idx → F .f32) shapeCasts_S1000000x8_S8000000 := by
  unfold Xv V1 ops1
  after_results <;> rfl

/-- The updates of the call are the second argument set into rows of sixteen zeros, flat. -/
theorem Uv_eq (d : Dev nD) : Uv m d = shapeCast S64 (Host.scatter scatter_S4x16_S1_S4x8_01_n_1_0 (fun _ b => b)
    (broadcastInDim S4x16 ![] bcast_S_S4x16 (constant (F := F) S_ .f32 0x00000000#32)) (fun _ => 0#32) (m (d.tc.loc main_arg1) : S4x8.Idx → F .f32)) shapeCasts_S4x16_S64 := by
  unfold Uv V1 ops1
  after_results <;> rfl

/-- The row numbers of the call are the third argument set into sixteen zeros. -/
theorem Iv_eq (d : Dev nD) : Iv m d = Host.scatter scatter_S16_S1_S4_0_n_0_0 (fun _ b => b) (fun _ => 0#32) (fun _ => 0#32)
    (m (d.tc.loc main_arg2) : S4.Idx → BitVec 32) := by
  unfold Iv V1 ops1
  after_results <;> rfl

/-- Update `k` of the scatter that pads the updates' rows lands at its own coordinates. -/
theorem lands_rows (k : S4x8.Idx) (ι : S4x16.Idx) :
    scatter_S4x16_S1_S4x8_01_n_1_0.resultIdx? k (fun _ : S1.Idx => 0#32) = some ι ↔ (k 0).val = (ι 0).val ∧ (k 1).val = (ι 1).val := by
  have hs : ∀ a, scatter_S4x16_S1_S4x8_01_n_1_0.start k (fun _ : S1.Idx => 0#32) a = 0 := fun a => by
    unfold ScatterDims.start; split <;> rfl
  have h0 : scatter_S4x16_S1_S4x8_01_n_1_0.window k 0 = (k 0).val := rfl
  have h1 : scatter_S4x16_S1_S4x8_01_n_1_0.window k 1 = (k 1).val := rfl
  rw [resultIdx?_eq_some, Fin.forall_fin_two, hs, hs, h0, h1]
  omega

/-- Update `k` of the scatter that pads the row numbers lands at its own place. -/
theorem lands_words (k : S4.Idx) (ι : S16.Idx) :
    scatter_S16_S1_S4_0_n_0_0.resultIdx? k (fun _ : S1.Idx => 0#32) = some ι ↔ (k 0).val = (ι 0).val := by
  have hs : ∀ a, scatter_S16_S1_S4_0_n_0_0.start k (fun _ : S1.Idx => 0#32) a = 0 := fun a => by
    unfold ScatterDims.start; split <;> rfl
  have h0 : scatter_S16_S1_S4_0_n_0_0.window k 0 = (k 0).val := rfl
  rw [resultIdx?_eq_some, Fin.forall_fin_one, hs, h0]
  omega

/-- Word `j` of the padded row numbers is row number `j`. -/
theorem Iv_at (d : Dev nD) (j : Fin 4) : Iv m d (iIx j.val) = (m (d.tc.loc main_arg2) : S4.Idx → BitVec 32) (ix1 j) := by
  rw [Iv_eq]
  have hj := j.isLt
  refine scatter_set_hit _ _ _ _ _ _ (fun k hk => ?_) (ix1 j) ((lands_words _ _).2 (Nat.mod_eq_of_lt (show j.val < 16 by omega)).symm)
  have h : (k 0).val = j.val % 16 := (lands_words _ _).1 hk
  rw [eq_ix1 k, show k 0 = j from Fin.ext (by omega)]
  rfl

/-- Element `16 j + e` of the padded updates is element `e` of update row `j`. -/
theorem Uv_at (d : Dev nD) (j : Fin 4) (e : Fin 8) : Uv m d (uIx (16 * j.val + e.val)) = (m (d.tc.loc main_arg1) : S4x8.Idx → F .f32) (ix2 j e) := by
  rw [Uv_eq]
  have hj := j.isLt
  have he := e.isLt
  rw [shapeCast_apply _ _ _ (ix2 (j : Fin 4) (⟨e.val, by omega⟩ : Fin 16)) (by
    rw [Shape.rowMajor_val_two, Shape.rowMajor_val_one]
    show j.val * 16 + e.val = (16 * j.val + e.val) % 64
    omega)]
  refine scatter_set_hit _ _ _ _ _ _ (fun k hk => ?_) (ix2 j e) ((lands_rows _ _).2 ⟨rfl, rfl⟩)
  obtain ⟨h0, h1⟩ := (lands_rows _ _).1 hk
  rw [eq_ix2 k, show k 0 = j from Fin.ext h0, show k 1 = e from Fin.ext h1]
  rfl

/-- One step at row `r`, element `e`. -/
theorem rowStep_at (w k : ℕ) (u : S64.Idx → F .f32) (f : S8000000.Idx → F .f32) (r : Fin 1000000) (e : Fin 8) (p : Fin 8000000)
    (hp : p.val = r.val * 8 + e.val) :
    rowStep w k u f (ix1 p) = if r.val = w then FloatOps.addf (f (ix1 p)) (u (uIx (k + e.val))) else f (ix1 p) := by
  have he := e.isLt
  show (if p.val / 8 = w then FloatOps.addf (f (ix1 p)) (u (uIx (k + p.val % 8))) else f (ix1 p)) = _
  rw [show p.val / 8 = r.val by omega, show p.val % 8 = e.val by omega]

/-- The rows that the run adds into row `r` at element `e`, in order, from `x`. -/
def addRows (x : F .f32) (idx : S4.Idx → BitVec 32) (upd : S4x8.Idx → F .f32) (r : ℕ) (e : Fin 8) : F .f32 :=
  (List.finRange 4).foldl (fun a j => if r = (idx (ix1 j)).toNat then FloatOps.addf a (upd (ix2 j e)) else a) x

/-- The program's result at row `r`, element `e`: the table's element with every update row whose row number is `r` added. -/
theorem VF_out_at (d : Dev nD) (r : Fin 1000000) (e : Fin 8) :
    (VF m d (Proc.devRef .tc main_v9) : S1000000x8.Idx → F .f32) (ix2 r e)
      = addRows ((m (d.tc.loc main_arg0) : S1000000x8.Idx → F .f32) (ix2 r e)) (m (d.tc.loc main_arg2)) (m (d.tc.loc main_arg1)) r.val e := by
  have hr := r.isLt
  have he := e.isLt
  have hp : r.val * 8 + e.val < 8000000 := by omega
  have h0 : Uv m d (uIx (0 + e.val)) = _ := Uv_at m d 0 e
  have h1 : Uv m d (uIx (16 + e.val)) = _ := Uv_at m d 1 e
  have h2 : Uv m d (uIx (32 + e.val)) = _ := Uv_at m d 2 e
  have h3 : Uv m d (uIx (48 + e.val)) = _ := Uv_at m d 3 e
  have i0 : Iv m d (iIx 0) = _ := Iv_at m d 0
  have i1 : Iv m d (iIx 1) = _ := Iv_at m d 1
  have i2 : Iv m d (iIx 2) = _ := Iv_at m d 2
  have i3 : Iv m d (iIx 3) = _ := Iv_at m d 3
  have hx : Xv m d (ix1 (⟨r.val * 8 + e.val, hp⟩ : Fin 8000000)) = (m (d.tc.loc main_arg0) : S1000000x8.Idx → F .f32) (ix2 r e) := by
    rw [Xv_eq]
    exact cast21 (a := 1000000) (b := 8) (n := 8000000) _ _ r e _ rfl
  refine (congrFun (VF_out m d) (ix2 r e)).trans ?_
  rw [cast12 (a := 1000000) (b := 8) (n := 8000000) _ _ r e ⟨r.val * 8 + e.val, hp⟩ rfl]
  show outVal (Xv m d) (Uv m d) (Iv m d) _ = _
  unfold outVal
  rw [rowStep_at _ _ _ _ r e _ rfl, rowStep_at _ _ _ _ r e _ rfl, rowStep_at _ _ _ _ r e _ rfl, rowStep_at _ _ _ _ r e _ rfl,
    hx, h0, h1, h2, h3, i0, i1, i2, i3]
  rfl

end Cert.Proof.TileIdeal
-- ==== Proof.RefIdeal.lean ====
/-
  The reference's result at the extended reals read at one element, where no row number is negative.
-/
module

public import proofs.«01_k».proof.Proof.Gen.ReferenceIdeal.Run
public import Idealize.ShloMosaic.Lib.Routing.Ops
public import Idealize.ShloMosaic.Lib.Routing.OpsPair
public import Idealize.ShloMosaic.Lib.ValueIdx
public import Idealize.ShloMosaic.PureOps.Ideal

@[expose] public section

noncomputable section

namespace Cert.Proof.RefIdeal

open Cert.ReferenceIdeal Cert.ReferenceIdeal.Gen

open Idealize.ShloMosaic Idealize.ShloMosaic.ValueIdx Idealize.ShloMosaic.Routing

/-- The row numbers as the reference hands them to its scatter: one million added to a negative one. -/
abbrev rowWords (idx : S4.Idx → BitVec 32) : S4x1.Idx → BitVec 32 :=
  broadcastInDim S4x1 ![0] bcast_S4_S4x1_0 (select (cmpi .slt idx (broadcastInDim S4 ![] bcast_S_S4 (constantI S_ 32 0#32)))
    (addi idx (broadcastInDim S4 ![] bcast_S_S4 (constantI S_ 32 1000000#32))) idx)

/-- A row number that is not negative is handed over as it is. -/
theorem rowWords_at (idx : S4.Idx → BitVec 32) (j : Fin 4) (h : (idx (ix1 j)).toNat < 2 ^ 31) : rowWords idx (ix2 j 0) = idx (ix1 j) := by
  have e : rowWords idx (ix2 j 0) = Scalar.select (IntOp.cmpi .slt (idx (ix1 j)) 0#32) (IntOp.addi (idx (ix1 j)) 1000000#32) (idx (ix1 j)) := by
    exact bcCol (n := 4) _ _ j
  rw [e, wrap_of_lt _ _ h]

/-- Update `(j, c)` lands at row `r`, element `e`, when row word `j` is `r` and `c` is `e`. -/
theorem lands_at (w : S4x1.Idx → BitVec 32) (j : Fin 4) (c : Fin 8) (r : Fin 1000000) (e : Fin 8) :
    scatter_S1000000x8_S4x1_S4x8_1_0_0_1.resultIdx? (ix2 j c) w = some (ix2 r e) ↔ (w (ix2 j 0)).toInt = r.val ∧ c = e := by
  have hs0 : scatter_S1000000x8_S4x1_S4x8_1_0_0_1.start (ix2 j c) w 0 = (w (ix2 j 0)).toInt := by
    unfold ScatterDims.start
    rw [dif_pos (by decide)]
    refine congrArg (fun i => (w i).toInt) (funext fun a => ?_)
    match a with
    | ⟨0, _⟩ => rfl
    | ⟨1, _⟩ => rfl
  have hs1 : scatter_S1000000x8_S4x1_S4x8_1_0_0_1.start (ix2 j c) w 1 = 0 := rfl
  have hw0 : scatter_S1000000x8_S4x1_S4x8_1_0_0_1.window (ix2 j c) 0 = 0 := rfl
  have hw1 : scatter_S1000000x8_S4x1_S4x8_1_0_0_1.window (ix2 j c) 1 = c.val := rfl
  rw [resultIdx?_eq_some, Fin.forall_fin_two, hs0, hs1, hw0, hw1, Fin.ext_iff]
  show (w (ix2 j 0)).toInt + ((0 : ℕ) : ℤ) = (r.val : ℤ) ∧ (0 : ℤ) + (c.val : ℤ) = (e.val : ℤ) ↔ _
  omega

/-- The reference's result at row `r`, element `e`, when no row number is negative: the table's element and, for each
    update row whose row number is `r`, that row's element `e`. -/
theorem result_at (x : S1000000x8.Idx → EReal) (idx : S4.Idx → BitVec 32) (upd : S4x8.Idx → EReal) (h : ∀ j, (idx (ix1 j)).toNat < 2 ^ 31)
    (r : Fin 1000000) (e : Fin 8) :
    Host.scatterAdd (F := Ideal) (φ := .f32) scatter_S1000000x8_S4x1_S4x8_1_0_0_1 x (rowWords idx) upd (ix2 r e)
      = x (ix2 r e) + ∑ j : Fin 4, if r.val = (idx (ix1 j)).toNat then upd (ix2 j e) else 0 := by
  show x (ix2 r e) + (∑ k ∈ Finset.univ.filter (fun k => scatter_S1000000x8_S4x1_S4x8_1_0_0_1.resultIdx? k (rowWords idx) = some (ix2 r e)), upd k) = _
  congr 1
  rw [Finset.sum_filter]
  refine (sum_idx2 _).trans (Finset.sum_congr rfl fun j _ => ?_)
  have hw : (rowWords idx (ix2 j 0)).toInt = ((idx (ix1 j)).toNat : ℤ) := by
    rw [rowWords_at idx j (h j), BitVec.toInt_eq_toNat_of_lt (by have := h j; omega)]
  have hl : ∀ c : Fin 8, scatter_S1000000x8_S4x1_S4x8_1_0_0_1.resultIdx? (ix2 j c) (rowWords idx) = some (ix2 r e)
      ↔ r.val = (idx (ix1 j)).toNat ∧ c = e := fun c => by
    rw [lands_at, hw]; omega
  by_cases hr : r.val = (idx (ix1 j)).toNat
  · rw [if_pos hr, Finset.sum_eq_single e (fun c _ hc => if_neg fun q => hc ((hl c).1 q).2) (fun q => absurd (Finset.mem_univ e) q),
      if_pos ((hl e).2 ⟨hr, rfl⟩)]
  · rw [if_neg hr]
    exact Finset.sum_eq_zero fun c _ => if_neg fun q => hr ((hl c).1 q).1

end Cert.Proof.RefIdeal
-- ==== Proof.ClaimIdeal.lean ====
/-
  The claims: the frames of the kernel, of the idealized kernel and of the reference, and the equality of the two results.
-/
module

public import proofs.«01_k».proof.Defs
public import proofs.«01_k».proof.Proof.Gen.Kernel
public import proofs.«01_k».proof.Proof.Gen.Pre_index_nonneg
public import proofs.«01_k».proof.Proof.ValueIdeal
public import proofs.«01_k».proof.Proof.RefIdeal
public import Idealize.ShloMosaic.Lib.ReduceAll
public import Idealize.ShloMosaic.Lib.Tactic

@[expose] public section

noncomputable section

namespace Cert.Proof

open Idealize.ShloMosaic Idealize.ShloMosaic.ValueIdx Idealize.SL.Sem

/-! ## The kernel's frames -/

/-- The idealized kernel's program is the kernel's own: its threads are the same programs. -/
theorem threads_eq {F : FTy → Type} [FloatOps F] : Cert.Kernel.threads (F := F) = Cert.KernelIdeal.threads (F := F) := rfl

/-- The same of what they call. -/
theorem defs_eq {F : FTy → Type} [FloatOps F] : Cert.Kernel.defs (F := F) = Cert.KernelIdeal.defs (F := F) := rfl

/-- The kernel, its floats read bit for bit, runs, keeps its arguments and leaves every counter at zero. -/
theorem frame_kernel : Cert.quiescent_Kernel := fun m ρ _ => by
  rw [threads_eq, defs_eq]
  exact TileIdeal.run_frame (F := Bits) m ρ

/-- The idealized kernel runs, keeps its arguments and leaves every counter at zero. -/
theorem frame_kernelIdeal : Cert.quiescent_KernelIdeal := fun m ρ _ => TileIdeal.run_frame (F := Ideal) m ρ

/-- The same where no row number is negative. -/
theorem frame_kernelIdeal_pre : Cert.quiescent_KernelIdeal_pre_index_nonneg := fun m ρ _ => TileIdeal.run_frame (F := Ideal) m ρ

/-! ## The reference's frames -/

/-- Every run of the reference keeps its arguments and leaves every counter at zero: it declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same where no row number is negative. -/
theorem frame_referenceIdeal_pre : Cert.quiescent_ReferenceIdeal_pre_index_nonneg := fun m ρ _ => frame_referenceIdeal m ρ trivial

/-! ## The two results are equal -/

/-- The precondition says that every row number, read unsigned, is below `2 ^ 31`. -/
theorem index_lt (x : Cert.Pre_index_nonneg.S1000000x8.Idx → EReal) (u : Cert.Pre_index_nonneg.S4x8.Idx → EReal) (idx : Cert.Pre_index_nonneg.S4.Idx → BitVec 32)
    (h : Cert.Pre_index_nonneg.fn (F := Ideal) x u idx = fun _ => 1#1) (j : Fin 4) : (idx (ix1 j)).toNat < 2 ^ 31 := by
  haveI : Subsingleton Cert.Pre_index_nonneg.S_.Idx := ⟨fun a b => funext fun k => k.elim0⟩
  have e : IntOp.cmpi .sge (idx (ix1 j)) 0#32 = 1#1 :=
    Host.reduce_andi_all _ _ _ _ _ (congrFun h ix0) (ix1 j)
  have : (0#32).sle (idx (ix1 j)) = true := by
    by_contra hn
    rw [Bool.not_eq_true] at hn
    have e' : BitVec.ofBool ((0#32).sle (idx (ix1 j))) = 1#1 := e
    rw [hn] at e'
    exact absurd e' (by decide)
  rw [BitVec.sle_iff_toInt_le, BitVec.toInt_eq_toNat_cond, BitVec.toInt_eq_toNat_cond] at this
  have := (idx (ix1 j)).isLt
  simp at *
  split_ifs at * <;> omega

/-- Adding the rows one after another, at the extended reals, is adding their sum. -/
theorem addRows_eq (x : EReal) (idx : Cert.KernelIdeal.S4.Idx → BitVec 32) (upd : Cert.KernelIdeal.S4x8.Idx → EReal) (r : ℕ) (e : Fin 8) :
    TileIdeal.addRows (F := Ideal) x idx upd r e = x + ∑ j : Fin 4, if r = (idx (ix1 j)).toNat then upd (ix2 j e) else 0 := by
  have step : ∀ (l : List (Fin 4)) (y : EReal), l.foldl (fun a j => if r = (idx (ix1 j)).toNat then a + upd (ix2 j e) else a) y
      = y + (l.map fun j => if r = (idx (ix1 j)).toNat then upd (ix2 j e) else 0).sum := by
    intro l
    induction l with
    | nil => intro y; simp
    | cons j l ih =>
      intro y
      rw [List.foldl_cons, ih, List.map_cons, List.sum_cons, ← add_assoc]
      split_ifs <;> simp
  rw [← List.sum_ofFn, List.ofFn_eq_map]
  exact step _ x

/-- Where no row number is negative, the idealized kernel and the reference end with the same result. -/
theorem algebraic : Cert.algebraic_KernelIdeal_ReferenceIdeal_pre_index_nonneg := by
  intro m g m' g' hpre hagree
  refine ⟨fun c => TileIdeal.VF m c (Proc.devRef .tc Cert.KernelIdeal.main_v9), (θ_run Cert.KernelIdeal.defs _ _).mono (fun _ h c =>
      ⟨h.1 c Cert.KernelIdeal.main_v9,
        (h.1 c Cert.KernelIdeal.main_arg0).trans (TileIdeal.VF_kept m c _ (by decide) (by decide) (by decide)),
        (h.1 c Cert.KernelIdeal.main_arg1).trans (TileIdeal.VF_kept m c _ (by decide) (by decide) (by decide)),
        (h.1 c Cert.KernelIdeal.main_arg2).trans (TileIdeal.VF_kept m c _ (by decide) (by decide) (by decide))⟩) (TileIdeal.run_main (F := Ideal) m g),
    (θ_run Cert.ReferenceIdeal.defs _ _).mono (fun _ h c => ⟨(h c).1.trans ?_, (h c).2⟩) (Cert.ReferenceIdeal.Value.run (F := Ideal) m' g')⟩
  obtain ⟨h0, h1, h2⟩ := hagree c
  rw [h0, h1, h2]
  funext i
  obtain ⟨r, e, rfl⟩ : ∃ (r : Fin 1000000) (e : Fin 8), i = ix2 r e := ⟨i 0, i 1, eq_ix2 i⟩
  refine (RefIdeal.result_at _ _ _ (fun j => index_lt _ _ _ (hpre c) j) r e).trans ?_
  exact (addRows_eq _ _ _ _ _).symm.trans (TileIdeal.VF_out_at (F := Ideal) m c r e).symm

end Cert.Proof

end
-- ==== Proof.lean ====
/-
  The proof of `Cert.Claim`: the claims' proofs are in Proof/ClaimIdeal.lean; here they are put together with the witnesses
  of the programs' stated facts.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_index_nonneg
public import proofs.«01_k».proof.Proof.ClaimIdeal
public import Idealize.ShloMosaic.Adequacy
public import Idealize.ShloMosaic.Init

@[expose] public section

noncomputable section

namespace Cert.Proof

open Idealize.ShloMosaic Idealize.SL.Sem Cert.Kernel

/-- All the claims. -/
theorem claim : Cert.Claim := ⟨Cert.Kernel.Gen.facts, Cert.KernelIdeal.Gen.facts, Cert.ReferenceIdeal.Gen.facts, Cert.Pre_index_nonneg.Gen.facts,
  frame_kernel, frame_kernelIdeal, frame_kernelIdeal_pre, frame_referenceIdeal, frame_referenceIdeal_pre, trivial, algebraic⟩

end Cert.Proof

end
